-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_is_sinusoid_table [hPre_is_sinusoid_table : Cert.Pre_is_sinusoid_table.Facts] (m : (ℓ : Loc Cert.KernelIdeal.nD Cert.KernelIdeal.τ Cert.KernelIdeal.sig) → Buf (Elt Ideal) ℓ) : Prop :=
  ∀ c : Dev Cert.KernelIdeal.nD,
    (Cert.Pre_is_sinusoid_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_sinusoid_table [hPre_is_sinusoid_table : Cert.Pre_is_sinusoid_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_sinusoid_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_sinusoid_table [hKernelIdeal : Cert.KernelIdeal.Facts] [hPre_is_sinusoid_table : Cert.Pre_is_sinusoid_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_sinusoid_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_sinusoid_table [hReferenceIdeal : Cert.ReferenceIdeal.Facts] [hPre_is_sinusoid_table : Cert.Pre_is_sinusoid_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_sinusoid_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_is_sinusoid_table [hKernelIdeal : Cert.KernelIdeal.Facts] [hReferenceIdeal : Cert.ReferenceIdeal.Facts] [hPre_is_sinusoid_table : Cert.Pre_is_sinusoid_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_sinusoid_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_is_sinusoid_table : Cert.Pre_is_sinusoid_table.Facts),
    quiescent_Kernel (hKernel := hKernel)
    ∧ quiescent_KernelIdeal (hKernelIdeal := hKernelIdeal)
    ∧ quiescent_KernelIdeal_pre_is_sinusoid_table (hKernelIdeal := hKernelIdeal) (hPre_is_sinusoid_table := hPre_is_sinusoid_table)
    ∧ quiescent_ReferenceIdeal (hReferenceIdeal := hReferenceIdeal)
    ∧ quiescent_ReferenceIdeal_pre_is_sinusoid_table (hReferenceIdeal := hReferenceIdeal) (hPre_is_sinusoid_table := hPre_is_sinusoid_table)
    ∧ preserves_Kernel_KernelIdeal
    ∧ algebraic_KernelIdeal_ReferenceIdeal_pre_is_sinusoid_table (hKernelIdeal := hKernelIdeal) (hReferenceIdeal := hReferenceIdeal) (hPre_is_sinusoid_table := hPre_is_sinusoid_table)
-- ==== Pre_is_sinusoid_table.lean ====
abbrev S4x8192 : Shape := ⟨2, ![4, 8192]⟩
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8192x1024 32) (arg1 : IVec S_ 32) : IVec S8192x1024 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S8192x1024 32 := broadcastInDim S8192x1024 ![] bcast_S_S8192x1024 v2
  let v4 : IVec S8192x1024 32 := Host.remsi arg0 v3
  let c_1 : IVec S_ 32 := constantI S_ 32 0#32
  let v5 : IVec S8192x1024 32 := broadcastInDim S8192x1024 ![] bcast_S_S8192x1024 c_1
  let v6 : IVec S8192x1024 1 := cmpi .ne v4 v5
  let c_2 : IVec S_ 32 := constantI S_ 32 0#32
  let v7 : IVec S8192x1024 32 := broadcastInDim S8192x1024 ![] bcast_S_S8192x1024 c_2
  let v8 : IVec S8192x1024 1 := cmpi .slt v4 v7
  let c_3 : IVec S_ 32 := constantI S_ 32 0#32
  let v9 : IVec S_ 1 := cmpi .slt v2 c_3
  let v10 : IVec S8192x1024 1 := broadcastInDim S8192x1024 ![] bcast_S_S8192x1024 v9
  let v11 : IVec S8192x1024 1 := cmpi .ne v8 v10
  let v12 : IVec S8192x1024 1 := andi v11 v6
  let v13 : IVec S8192x1024 32 := broadcastInDim S8192x1024 ![] bcast_S_S8192x1024 v2
  let v14 : IVec S8192x1024 32 := addi v4 v13
  let v15 : IVec S8192x1024 32 := select v12 v14 v4
  v15

def fn_where_0 {F : FTy → Type} [FloatOps F] (arg0 : IVec S8192x1024 1) (arg1 : FVec F S8192x1024 .f32) (arg2 : FVec F S8192x1024 .f32) : FVec F S8192x1024 .f32 :=
  let v0 : FVec F S8192x1024 .f32 := select arg0 arg1 arg2
  v0

def fn {F : FTy → Type} [FloatOps F] (main_arg0 : IVec S4x8192 32) (main_arg1 : FVec F S8192x1024 .f32) : IVec S8192x1024 1 :=
  let main_v0 : IVec S8192x1024 32 := iotaInDim S8192x1024 32 0
  let main_v1 : FVec F S8192x1024 .f32 := sitofp .f32 main_v0
  let main_v2 : IVec S8192x1024 32 := iotaInDim S8192x1024 32 1
  let main_c : IVec S_ 32 := constantI S_ 32 2#32
  let main_v3 : IVec S8192x1024 32 := fn_remainder (F := F) main_v2 main_c
  let main_v4 : IVec S8192x1024 32 := subi main_v2 main_v3
  let main_v5 : FVec F S8192x1024 .f32 := sitofp .f32 main_v4
  let main_cst : FVec F S_ .f32 := constant S_ .f32 0xBC135D8E#32
  let main_v6 : FVec F S8192x1024 .f32 := broadcastInDim S8192x1024 ![] bcast_S_S8192x1024 main_cst
  let main_v7 : FVec F S8192x1024 .f32 := mulf main_v5 main_v6
  let main_v8 : FVec F S8192x1024 .f32 := Host.exp main_v7
  let main_v9 : FVec F S8192x1024 .f32 := mulf main_v1 main_v8
  let main_c_0 : IVec S_ 32 := constantI S_ 32 2#32
  let main_v10 : IVec S8192x1024 32 := fn_remainder (F := F) main_v2 main_c_0
  let main_c_1 : IVec S_ 32 := constantI S_ 32 0#32
  let main_v11 : IVec S8192x1024 32 := broadcastInDim S8192x1024 ![] bcast_S_S8192x1024 main_c_1
  let main_v12 : IVec S8192x1024 1 := cmpi .eq main_v10 main_v11
  let main_v13 : FVec F S8192x1024 .f32 := Host.sin main_v9
  let main_v14 : FVec F S8192x1024 .f32 := Host.cos main_v9
  let main_v15 : FVec F S8192x1024 .f32 := fn_where_0 (F := F) main_v12 main_v13 main_v14
  let main_v16 : IVec S8192x1024 1 := cmpf .oeq main_arg1 main_v15
  main_v16
-- ==== Kernel.lean ====
abbrev S4x8192 : Shape := ⟨2, ![4, 8192]⟩
abbrev S8192x1024 : Shape := ⟨2, ![8192, 1024]⟩
abbrev S16x512x1024 : Shape := ⟨3, ![16, 512, 1024]⟩
abbrev S4x8192x1024 : Shape := ⟨3, ![4, 8192, 1024]⟩
abbrev S512x1024 : Shape := ⟨2, ![512, 1024]⟩
abbrev S1x8x1024 : Shape := ⟨3, ![1, 8, 1024]⟩
abbrev S4x512x1024 : Shape := ⟨3, ![4, 512, 1024]⟩
abbrev S4 : Shape := ⟨1, ![4]⟩
abbrev S1x1x1024 : Shape := ⟨3, ![1, 1, 1024]⟩
abbrev S1x1024 : Shape := ⟨2, ![1, 1024]⟩
abbrev S1x1 : Shape := ⟨2, ![1, 1]⟩
abbrev S1x1023 : Shape := ⟨2, ![1, 1023]⟩
abbrev S512x1023 : Shape := ⟨2, ![512, 1023]⟩
abbrev S512x1 : Shape := ⟨2, ![512, 1]⟩
abbrev S1 : Shape := ⟨1, ![1]⟩
abbrev S_ : Shape := ⟨0, ![]⟩
abbrev S1x512x1024 : Shape := ⟨3, ![1, 512, 1024]⟩

abbrev nBuf : Space → Nat
  | .hbm => 4
  | .vmem => 4
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S16x512x1024, .f32⟩
  | .hbm, ⟨3, _⟩ => ⟨S4x8192x1024, .f32⟩
  | .local _ .vmem, ⟨0, _⟩ => ⟨S512x1024, .f32⟩
  | .local _ .vmem, ⟨1, _⟩ => ⟨S1x8x1024, .f32⟩
  | .local _ .vmem, ⟨2, _⟩ => ⟨S1x8x1024, .f32⟩
  | .local _ .vmem, ⟨3, _⟩ => ⟨S4x512x1024, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let v47 : BitVec 32 := Scalar.remsi arg0 c4_i32
  let c0_i32_8 : BitVec 32 := 0#32
  let v48 : BitVec 1 := Scalar.cmpi .eq v47 c0_i32_8
  let v49 : BitVec 32 := Scalar.extui v48
  let c0_i32_9 : BitVec 32 := 0#32
  let v50 : BitVec 1 := Scalar.cmpi .ne v49 c0_i32_9
  v50

def k0_cond2 (i : grid0.Coords) : BitVec 1 :=
  let arg0 : BitVec 32 := BitVec.ofNat 32 (i 0).val
  let c4_i32_16 : BitVec 32 := 4#32
  let v63 : BitVec 1 := Scalar.cmpi .sge arg0 c4_i32_16
  let v64 : BitVec 32 := Scalar.extui v63
  let c0_i32_17 : BitVec 32 := 0#32
  let v65 : BitVec 1 := Scalar.cmpi .ne v64 c0_i32_17
  v65

def k0_off1 (i : grid0.Coords) : Fin 3 → Nat :=
  let c0_i32_51 : BitVec 32 := 0#32
  let arg0 : BitVec 32 := BitVec.ofNat 32 (i 0).val
  let c4_i32_48 : BitVec 32 := 4#32
  let v97 : BitVec 32 := Scalar.subi arg0 c4_i32_48
  let c512_i32_49 : BitVec 32 := 512#32
  let v98 : BitVec 32 := Scalar.muli v97 c512_i32_49
  let c0_i32_53 : BitVec 32 := 0#32
  ![0, v98.toNat, 0]
def k0_off2 (i : grid0.Coords) : Fin 3 → Nat :=
  let c1_i32_59 : BitVec 32 := 1#32
  let arg0 : BitVec 32 := BitVec.ofNat 32 (i 0).val
  let c4_i32_56 : BitVec 32 := 4#32
  let v105 : BitVec 32 := Scalar.subi arg0 c4_i32_56
  let c512_i32_57 : BitVec 32 := 512#32
  let v106 : BitVec 32 := Scalar.muli v105 c512_i32_57
  let c0_i32_61 : BitVec 32 := 0#32
  ![1, v106.toNat, 0]
def k0_off3 (i : grid0.Coords) : Fin 3 → Nat :=
  let c2_i32_67 : BitVec 32 := 2#32
  let arg0 : BitVec 32 := BitVec.ofNat 32 (i 0).val
  let c4_i32_64 : BitVec 32 := 4#32
  let v113 : BitVec 32 := Scalar.subi arg0 c4_i32_64
  let c512_i32_65 : BitVec 32 := 512#32
  let v114 : BitVec 32 := Scalar.muli v113 c512_i32_65
  let c0_i32_69 : BitVec 32 := 0#32
  ![2, v114.toNat, 0]
def k0_off4 (i : grid0.Coords) : Fin 3 → Nat :=
  let c3_i32_75 : BitVec 32 := 3#32
  let arg0 : BitVec 32 := BitVec.ofNat 32 (i 0).val
  let c4_i32_72 : BitVec 32 := 4#32
  let v121 : BitVec 32 := Scalar.subi arg0 c4_i32_72
  let c512_i32_73 : BitVec 32 := 512#32
  let v122 : BitVec 32 := Scalar.muli v121 c512_i32_73
  let c0_i32_77 : BitVec 32 := 0#32
  ![3, v122.toNat, 0]
def k0_off5 (i : grid0.Coords) : Fin 3 → Nat :=
  let c0_i32_22 : BitVec 32 := 0#32
  let arg0 : BitVec 32 := BitVec.ofNat 32 (i 0).val
  let c512_i32 : BitVec 32 := 512#32
  let v69 : BitVec 32 := Scalar.muli arg0 c512_i32
  let c0_i32_24 : BitVec 32 := 0#32
  ![0, v69.toNat, 0]
def k0_off6 (i : grid0.Coords) : Fin 3 → Nat :=
  let c1_i32_29 : BitVec 32 := 1#32
  let arg0 : BitVec 32 := BitVec.ofNat 32 (i 0).val
  let c512_i32_27 : BitVec 32 := 512#32
  let v76 : BitVec 32 := Scalar.muli arg0 c512_i32_27
  let c0_i32_31 : BitVec 32 := 0#32
  ![1, v76.toNat, 0]
def k0_off7 (i : grid0.Coords) : Fin 3 → Nat :=
  let c2_i32_36 : BitVec 32 := 2#32
  let arg0 : BitVec 32 := BitVec.ofNat 32 (i 0).val
  let c512_i32_34 : BitVec 32 := 512#32
  let v83 : BitVec 32 := Scalar.muli arg0 c512_i32_34
  let c0_i32_38 : BitVec 32 := 0#32
  ![2, v83.toNat, 0]
def k0_off8 (i : grid0.Coords) : Fin 3 → Nat :=
  let c3_i32_43 : BitVec 32 := 3#32
  let arg0 : BitVec 32 := BitVec.ofNat 32 (i 0).val
  let c512_i32_41 : BitVec 32 := 512#32
  let v90 : BitVec 32 := Scalar.muli arg0 c512_i32_41
  let c0_i32_45 : BitVec 32 := 0#32
  ![3, v90.toNat, 0]
def k0_cond3 (i : grid0.Coords) : BitVec 1 :=
  let arg0 : BitVec 32 := BitVec.ofNat 32 (i 0).val
  let c4_i32 : BitVec 32 := 4#32
  let v47 : BitVec 32 := Scalar.remsi arg0 c4_i32
  let c1_i32_10 : BitVec 32 := 1#32
  let v51 : BitVec 1 := Scalar.cmpi .eq v47 c1_i32_10
  let v52 : BitVec 32 := Scalar.extui v51
  let c0_i32_11 : BitVec 32 := 0#32
  let v53 : BitVec 1 := Scalar.cmpi .ne v52 c0_i32_11
  v53

def k0_cond4 (i : grid0.Coords) : BitVec 1 :=
  let arg0 : BitVec 32 := BitVec.ofNat 32 (i 0).val
  let c4_i32_16 : BitVec 32 := 4#32
  let v63 : BitVec 1 := Scalar.cmpi .sge arg0 c4_i32_16
  let v64 : BitVec 32 := Scalar.extui v63
  let c0_i32_17 : BitVec 32 := 0#32
  let v65 : BitVec 1 := Scalar.cmpi .ne v64 c0_i32_17
  v65

def k0_off9 (i : grid0.Coords) : Fin 3 → Nat :=
  let c0_i32_50 : BitVec 32 := 0#32
  let arg0 : BitVec 32 := BitVec.ofNat 32 (i 0).val
  let c4_i32_47 : BitVec 32 := 4#32
  let v97 : BitVec 32 := Scalar.subi arg0 c4_i32_47
  let c512_i32_48 : BitVec 32 := 512#32
  let v98 : BitVec 32 := Scalar.muli v97 c512_i32_48
  let c0_i32_52 : BitVec 32 := 0#32
  ![0, v98.toNat, 0]
def k0_off10 (i : grid0.Coords) : Fin 3 → Nat :=
  let c1_i32_58 : BitVec 32 := 1#32
  let arg0 : BitVec 32 := BitVec.ofNat 32 (i 0).val
  let c4_i32_55 : BitVec 32 := 4#32
  let v105 : BitVec 32 := Scalar.subi arg0 c4_i32_55
  let c512_i32_56 : BitVec 32 := 512#32
  let v106 : BitVec 32 := Scalar.muli v105 c512_i32_56
  let c0_i32_60 : BitVec 32 := 0#32
  ![1, v106.toNat, 0]
def k0_off11 (i : grid0.Coords) : Fin 3 → Nat :=
  let c2_i32_66 : BitVec 32 := 2#32
  let arg0 : BitVec 32 := BitVec.ofNat 32 (i 0).val
  let c4_i32_63 : BitVec 32 := 4#32
  let v113 : BitVec 32 := Scalar.subi arg0 c4_i32_63
  let c512_i32_64 : BitVec 32 := 512#32
  let v114 : BitVec 32 := Scalar.muli v113 c512_i32_64
  let c0_i32_68 : BitVec 32 := 0#32
  ![2, v114.toNat, 0]
def k0_off12 (i : grid0.Coords) : Fin 3 → Nat :=
  let c3_i32_74 : BitVec 32 := 3#32
  let arg0 : BitVec 32 := BitVec.ofNat 32 (i 0).val
  let c4_i32_71 : BitVec 32 := 4#32
  let v121 : BitVec 32 := Scalar.subi arg0 c4_i32_71
  let c512_i32_72 : BitVec 32 := 512#32
  let v122 : BitVec 32 := Scalar.muli v121 c512_i32_72
  let c0_i32_76 : BitVec 32 := 0#32
  ![3, v122.toNat, 0]
def k0_off13 (i : grid0.Coords) : Fin 3 → Nat :=
  let c0_i32_21 : BitVec 32 := 0#32
  let arg0 : BitVec 32 := BitVec.ofNat 32 (i 0).val
  let c512_i32 : BitVec 32 := 512#32
  let v69 : BitVec 32 := Scalar.muli arg0 c512_i32
  let c0_i32_23 : BitVec 32 := 0#32
  ![0, v69.toNat, 0]
def k0_off14 (i : grid0.Coords) : Fin 3 → Nat :=
  let c1_i32_28 : BitVec 32 := 1#32
  let arg0 : BitVec 32 := BitVec.ofNat 32 (i 0).val
  let c512_i32_26 : BitVec 32 := 512#32
  let v76 : BitVec 32 := Scalar.muli arg0 c512_i32_26
  let c0_i32_30 : BitVec 32 := 0#32
  ![1, v76.toNat, 0]
def k0_off15 (i : grid0.Coords) : Fin 3 → Nat :=
  let c2_i32_35 : BitVec 32 := 2#32
  let arg0 : BitVec 32 := BitVec.ofNat 32 (i 0).val
  let c512_i32_33 : BitVec 32 := 512#32
  let v83 : BitVec 32 := Scalar.muli arg0 c512_i32_33
  let c0_i32_37 : BitVec 32 := 0#32
  ![2, v83.toNat, 0]
def k0_off16 (i : grid0.Coords) : Fin 3 → Nat :=
  let c3_i32_42 : BitVec 32 := 3#32
  let arg0 : BitVec 32 := BitVec.ofNat 32 (i 0).val
  let c512_i32_40 : BitVec 32 := 512#32
  let v90 : BitVec 32 := Scalar.muli arg0 c512_i32_40
  let c0_i32_44 : BitVec 32 := 0#32
  ![3, v90.toNat, 0]
def k0_cond5 (i : grid0.Coords) : BitVec 1 :=
  let arg0 : BitVec 32 := BitVec.ofNat 32 (i 0).val
  let c4_i32 : BitVec 32 := 4#32
  let v47 : BitVec 32 := Scalar.remsi arg0 c4_i32
  let c2_i32_12 : BitVec 32 := 2#32
  let v54 : BitVec 1 := Scalar.cmpi .eq v47 c2_i32_12
  let v55 : BitVec 32 := Scalar.extui v54
  let c0_i32_13 : BitVec 32 := 0#32
  let v56 : BitVec 1 := Scalar.cmpi .ne v55 c0_i32_13
  v56

def k0_cond6 (i : grid0.Coords) : BitVec 1 :=
  let arg0 : BitVec 32 := BitVec.ofNat 32 (i 0).val
  let c4_i32_16 : BitVec 32 := 4#32
  let v63 : BitVec 1 := Scalar.cmpi .sge arg0 c4_i32_16
  let v64 : BitVec 32 := Scalar.extui v63
  let c0_i32_17 : BitVec 32 := 0#32
  let v65 : BitVec 1 := Scalar.cmpi .ne v64 c0_i32_17
  v65

def k0_off17 (i : grid0.Coords) : Fin 3 → Nat :=
  let c0_i32_50 : BitVec 32 := 0#32
  let arg0 : BitVec 32 := BitVec.ofNat 32 (i 0).val
  let c4_i32_47 : BitVec 32 := 4#32
  let v97 : BitVec 32 := Scalar.subi arg0 c4_i32_47
  let c512_i32_48 : BitVec 32 := 512#32
  let v98 : BitVec 32 := Scalar.muli v97 c512_i32_48
  let c0_i32_52 : BitVec 32 := 0#32
  ![0, v98.toNat, 0]
def k0_off18 (i : grid0.Coords) : Fin 3 → Nat :=
  let c1_i32_58 : BitVec 32 := 1#32
  let arg0 : BitVec 32 := BitVec.ofNat 32 (i 0).val
  let c4_i32_55 : BitVec 32 := 4#32
  let v105 : BitVec 32 := Scalar.subi arg0 c4_i32_55
  let c512_i32_56 : BitVec 32 := 512#32
  let v106 : BitVec 32 := Scalar.muli v105 c512_i32_56
  let c0_i32_60 : BitVec 32 := 0#32
  ![1, v106.toNat, 0]
def k0_off19 (i : grid0.Coords) : Fin 3 → Nat :=
  let c2_i32_66 : BitVec 32 := 2#32
  let arg0 : BitVec 32 := BitVec.ofNat 32 (i 0).val
  let c4_i32_63 : BitVec 32 := 4#32
  let v113 : BitVec 32 := Scalar.subi arg0 c4_i32_63
  let c512_i32_64 : BitVec 32 := 512#32
  let v114 : BitVec 32 := Scalar.muli v113 c512_i32_64
  let c0_i32_68 : BitVec 32 := 0#32
  ![2, v114.toNat, 0]
def k0_off20 (i : grid0.Coords) : Fin 3 → Nat :=
  let c3_i32_74 : BitVec 32 := 3#32
  let arg0 : BitVec 32 := BitVec.ofNat 32 (i 0).val
  let c4_i32_71 : BitVec 32 := 4#32
  let v121 : BitVec 32 := Scalar.subi arg0 c4_i32_71
  let c512_i32_72 : BitVec 32 := 512#32
  let v122 : BitVec 32 := Scalar.muli v121 c512_i32_72
  let c0_i32_76 : BitVec 32 := 0#32
  ![3, v122.toNat, 0]
def k0_off21 (i : grid0.Coords) : Fin 3 → Nat :=
  let c0_i32_21 : BitVec 32 := 0#32
  let arg0 : BitVec 32 := BitVec.ofNat 32 (i 0).val
  let c512_i32 : BitVec 32 := 512#32
  let v69 : BitVec 32 := Scalar.muli arg0 c512_i32
  let c0_i32_23 : BitVec 32 := 0#32
  ![0, v69.toNat, 0]
def k0_off22 (i : grid0.Coords) : Fin 3 → Nat :=
  let c1_i32_28 : BitVec 32 := 1#32
  let arg0 : BitVec 32 := BitVec.ofNat 32 (i 0).val
  let c512_i32_26 : BitVec 32 := 512#32
  let v76 : BitVec 32 := Scalar.muli arg0 c512_i32_26
  let c0_i32_30 : BitVec 32 := 0#32
  ![1, v76.toNat, 0]
def k0_off23 (i : grid0.Coords) : Fin 3 → Nat :=
  let c2_i32_35 : BitVec 32 := 2#32
  let arg0 : BitVec 32 := BitVec.ofNat 32 (i 0).val
  let c512_i32_33 : BitVec 32 := 512#32
  let v83 : BitVec 32 := Scalar.muli arg0 c512_i32_33
  let c0_i32_37 : BitVec 32 := 0#32
  ![2, v83.toNat, 0]
def k0_off24 (i : grid0.Coords) : Fin 3 → Nat :=
  let c3_i32_42 : BitVec 32 := 3#32
  let arg0 : BitVec 32 := BitVec.ofNat 32 (i 0).val
  let c512_i32_40 : BitVec 32 := 512#32
  let v90 : BitVec 32 := Scalar.muli arg0 c512_i32_40
  let c0_i32_44 : BitVec 32 := 0#32
  ![3, v90.toNat, 0]
def k0_cond7 (i : grid0.Coords) : BitVec 1 :=
  let arg0 : BitVec 32 := BitVec.ofNat 32 (i 0).val
  let c4_i32 : BitVec 32 := 4#32
  let v47 : BitVec 32 := Scalar.remsi arg0 c4_i32
  let c3_i32 : BitVec 32 := 3#32
  let v57 : BitVec 1 := Scalar.cmpi .eq v47 c3_i32
  let v58 : BitVec 32 := Scalar.extui v57
  let c0_i32_14 : BitVec 32 := 0#32
  let v59 : BitVec 1 := Scalar.cmpi .ne v58 c0_i32_14
  v59

def k0_cond8 (i : grid0.Coords) : BitVec 1 :=
  let arg0 : BitVec 32 := BitVec.ofNat 32 (i 0).val
  let c4_i32_16 : BitVec 32 := 4#32
  let v63 : BitVec 1 := Scalar.cmpi .sge arg0 c4_i32_16
  let v64 : BitVec 32 := Scalar.extui v63
  let c0_i32_17 : BitVec 32 := 0#32
  let v65 : BitVec 1 := Scalar.cmpi .ne v64 c0_i32_17
  v65

def k0_off25 (i : grid0.Coords) : Fin 3 → Nat :=
  let c0_i32_50 : BitVec 32 := 0#32
  let arg0 : BitVec 32 := BitVec.ofNat 32 (i 0).val
  let c4_i32_47 : BitVec 32 := 4#32
  let v97 : BitVec 32 := Scalar.subi arg0 c4_i32_47
  let c512_i32_48 : BitVec 32 := 512#32
  let v98 : BitVec 32 := Scalar.muli v97 c512_i32_48
  let c0_i32_52 : BitVec 32 := 0#32
  ![0, v98.toNat, 0]
def k0_off26 (i : grid0.Coords) : Fin 3 → Nat :=
  let c1_i32_58 : BitVec 32 := 1#32
  let arg0 : BitVec 32 := BitVec.ofNat 32 (i 0).val
  let c4_i32_55 : BitVec 32 := 4#32
  let v105 : BitVec 32 := Scalar.subi arg0 c4_i32_55
  let c512_i32_56 : BitVec 32 := 512#32
  let v106 : BitVec 32 := Scalar.muli v105 c512_i32_56
  let c0_i32_60 : BitVec 32 := 0#32
  ![1, v106.toNat, 0]
def k0_off27 (i : grid0.Coords) : Fin 3 → Nat :=
  let c2_i32_66 : BitVec 32 := 2#32
  let arg0 : BitVec 32 := BitVec.ofNat 32 (i 0).val
  let c4_i32_63 : BitVec 32 := 4#32
  let v113 : BitVec 32 := Scalar.subi arg0 c4_i32_63
  let c512_i32_64 : BitVec 32 := 512#32
  let v114 : BitVec 32 := Scalar.muli v113 c512_i32_64
  let c0_i32_68 : BitVec 32 := 0#32
  ![2, v114.toNat, 0]
def k0_off28 (i : grid0.Coords) : Fin 3 → Nat :=
  let c3_i32_74 : BitVec 32 := 3#32
  let arg0 : BitVec 32 := BitVec.ofNat 32 (i 0).val
  let c4_i32_71 : BitVec 32 := 4#32
  let v121 : BitVec 32 := Scalar.subi arg0 c4_i32_71
  let c512_i32_72 : BitVec 32 := 512#32
  let v122 : BitVec 32 := Scalar.muli v121 c512_i32_72
  let c0_i32_76 : BitVec 32 := 0#32
  ![3, v122.toNat, 0]
def k0_off29 (i : grid0.Coords) : Fin 3 → Nat :=
  let c0_i32_21 : BitVec 32 := 0#32
  let arg0 : BitVec 32 := BitVec.ofNat 32 (i 0).val
  let c512_i32 : BitVec 32 := 512#32
  let v69 : BitVec 32 := Scalar.muli arg0 c512_i32
  let c0_i32_23 : BitVec 32 := 0#32
  ![0, v69.toNat, 0]
def k0_off30 (i : grid0.Coords) : Fin 3 → Nat :=
  let c1_i32_28 : BitVec 32 := 1#32
  let arg0 : BitVec 32 := BitVec.ofNat 32 (i 0).val
  let c512_i32_26 : BitVec 32 := 512#32
  let v76 : BitVec 32 := Scalar.muli arg0 c512_i32_26
  let c0_i32_30 : BitVec 32 := 0#32
  ![1, v76.toNat, 0]
def k0_off31 (i : grid0.Coords) : Fin 3 → Nat :=
  let c2_i32_35 : BitVec 32 := 2#32
  let arg0 : BitVec 32 := BitVec.ofNat 32 (i 0).val
  let c512_i32_33 : BitVec 32 := 512#32
  let v83 : BitVec 32 := Scalar.muli arg0 c512_i32_33
  let c0_i32_37 : BitVec 32 := 0#32
  ![2, v83.toNat, 0]
def k0_off32 (i : grid0.Coords) : Fin 3 → Nat :=
  let c3_i32_42 : BitVec 32 := 3#32
  let arg0 : BitVec 32 := BitVec.ofNat 32 (i 0).val
  let c512_i32_40 : BitVec 32 := 512#32
  let v90 : BitVec 32 := Scalar.muli arg0 c512_i32_40
  let c0_i32_44 : BitVec 32 := 0#32
  ![3, v90.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4x8192 : Shape := ⟨2, ![4, 8192]⟩
abbrev S8192x1024 : Shape := ⟨2, ![8192, 1024]⟩
abbrev S8192 : Shape := ⟨1, ![8192]⟩
abbrev S1x8192 : Shape := ⟨2, ![1, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x1024 : Shape := ⟨3, ![4, 8192, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S4x8192, .i32⟩
  | .hbm, ⟨5, _⟩ => ⟨S_, .i32⟩
  | .hbm, ⟨6, _⟩ => ⟨S4x8192, .i32⟩
  | .hbm, ⟨7, _⟩ => ⟨S4x8192, .i1⟩
  | .hbm, ⟨8, _⟩ => ⟨S_, .i32⟩
  | .hbm, ⟨9, _⟩ => ⟨S4x8192, .i32⟩
  | .hbm, ⟨10, _⟩ => ⟨S4x8192, .i32⟩
  | .hbm, ⟨11, _⟩ => ⟨S4x8192, .i32⟩
  | .hbm, ⟨12, _⟩ => ⟨S4x8192x1, .i32⟩
  | .hbm, ⟨13, _⟩ => ⟨S1, .i32⟩
  | .hbm, ⟨14, _⟩ => ⟨S_, .i32⟩
  | .hbm, ⟨15, _⟩ => ⟨S4x8192x1, .i32⟩
  | .hbm, ⟨16, _⟩ => ⟨S4x8192x1, .i1⟩
  | .hbm, ⟨17, _⟩ => ⟨S1x1x1, .i32⟩
  | .hbm, ⟨18, _⟩ => ⟨S4x8192x1, .i32⟩
  | .hbm, ⟨19, _⟩ => ⟨S4x8192x1, .i1⟩
  | .hbm, ⟨20, _⟩ => ⟨S4x8192x1, .i1⟩
  | .hbm, ⟨21, _⟩ => ⟨S_, .i1⟩
  | .hbm, ⟨22, _⟩ => ⟨S4x8192, .i1⟩
  | .hbm, ⟨23, _⟩ => ⟨S4x8192x1024, .f32⟩
  | .hbm, ⟨24, _⟩ => ⟨S4x8192x1024, .i1⟩
  | .hbm, ⟨25, _⟩ => ⟨S_, .f32⟩
  | .hbm, ⟨26, _⟩ => ⟨S4x8192x1024, .f32⟩
  | .hbm, ⟨27, _⟩ => ⟨S4x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Same.lean ====
/-
  The two printings of the kernel at bits, the program as it is run and the program the idealisation printed, are one
  program: no operation was replaced. So what is proved of the second's run at any float values holds of the first at bits.
-/
module

public import proofs.«01_k».proof.Defs

@[expose] public section

noncomputable section

namespace Cert.Same

open Idealize.ShloMosaic Idealize.SL.Sem

variable [hK : Cert.Kernel.Facts] [hI : Cert.KernelIdeal.Facts]

/-- The host programs are the same, -/
theorem main (c : Dev 1) : Cert.Kernel.main (F := Bits) c = Cert.KernelIdeal.main (F := Bits) c := rfl

/-- the kernels' bodies are the same, -/
theorem defs0 : @Cert.Kernel.defs₀ Bits _ _ = @Cert.KernelIdeal.defs₀ Bits _ _ := by
  unfold Cert.Kernel.defs₀ Cert.KernelIdeal.defs₀
  apply congrArg
  funext x a
  match x, a with
  | 0, (t, s) => rfl

/-- and so are the body tables. -/
theorem defs : @Cert.Kernel.defs Bits _ _ = @Cert.KernelIdeal.defs Bits _ _ :=
  congrArg (Pipeline.defs _) defs0

end Cert.Same

end
-- ==== Proof.Ring.lean ====
/-
  The ring the kernel writes its result through: the four slots of the VMEM scratch, the 64 pieces of the result (one
  per batch entry and block), the four DMA cells, what each holds, and the two things the body does with a slot — take
  back a slot whose four copies are in flight, and fill a free slot and start its four copies. Everything here is stated
  once for a slot `k` and a block `u`, over an arbitrary family `B` of block contents.
-/
module

public import proofs.«01_k».proof.Proof.Gen.KernelIdeal.Frame
public import Idealize.ShloMosaic.Lib.Batch
public import Idealize.ShloMosaic.Lib.Ring
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The assertions of this proof: the pipeline's, beside the counters of the body's own transfers. -/
local notation "𝕄" => MT nD τ sig Unit (Elt F) ℕ (Pipeline.UD sig nD τ) ℕ

/-! ## The slots, the pieces and the cells -/

/-- Slot `k` of the ring is plane `k` of the scratch. -/
def slotOff (k : Fin 4) : Fin 3 → ℕ := ![k.val, 0, 0]

/-- A slot lies inside the ring. -/
theorem slot_inb (k : Fin 4) : ∀ a, slotOff k a + S1x512x1024.size a ≤ S4x512x1024.size a := by
  revert k; decide

/-- Block `u` of batch entry `b` starts at row `512 * u` of plane `b` of the result. -/
def pieceOff (b : Fin 4) (u : Fin 16) : Fin 3 → ℕ := ![b.val, 512 * u.val, 0]

/-- A piece lies inside the result. -/
theorem piece_inb (b : Fin 4) (u : Fin 16) : ∀ a, pieceOff b u a + S1x512x1024.size a ≤ S4x8192x1024.size a := by
  intro a
  have := b.isLt
  have := u.isLt
  match a with
  | 0 => show b.val + 1 ≤ 4; omega
  | 1 => show 512 * u.val + 512 ≤ 8192; omega
  | 2 => show 0 + 1024 ≤ 1024; omega

/-- Slot `k` as a matrix. -/
abbrev slotM (k : Fin 4) : Memref sig .tc .vmem S512x1024 .f32 :=
  ((Memref.whole cc0_scratch0).slice (Rect.unit (s := S4x512x1024) (slotOff k) S1x512x1024.size (slot_inb k)) (fun _ => rfl)).squeeze
    S512x1024 squeezes_S1x512x1024_S512x1024

/-- 512 rows of one plane of the result, from an offset. -/
abbrev rowsM (o : Fin 3 → ℕ) (ho : ∀ a, o a + S1x512x1024.size a ≤ S4x8192x1024.size a) : Memref sig .tc .hbm S512x1024 .f32 :=
  ((Memref.whole main_v1).slice (Rect.unit (s := S4x8192x1024) o S1x512x1024.size ho) (fun _ => rfl)).squeeze
    S512x1024 squeezes_S1x512x1024_S512x1024

/-- The piece of the result that batch entry `b` and block `u` name. -/
abbrev pieceM (b : Fin 4) (u : Fin 16) : Memref sig .tc .hbm S512x1024 .f32 := rowsM (pieceOff b u) (piece_inb b u)

/-- A slot's semaphore is one of the four. -/
theorem cell_inb (k : Fin 4) : ∀ a, (![k.val] : Fin 1 → ℕ) a + S1.size a ≤ S4.size a := by
  revert k; decide

/-- The DMA semaphore of slot `k`. -/
abbrev cellM (k : Fin 4) : DmaSem sig :=
  ((cc0_scratch1.slice (Rect.unit (s := S4) ![k.val] S1.size (cell_inb k))).squeeze S_ squeezes_S1_S_).sem

/-! ## What they hold -/

/-- The scratch with the matrix `X` in every slot (only slot `k`'s elements are ever spoken of at once). -/
def ringVal (X : FVec F S512x1024 .f32) : cc0_scratch0.ty.Contents (Elt F) :=
  fun (j : S4x512x1024.Idx) => X (ix2 (j 1) (j 2))

/-- Where slot `k` keeps entry `(r, l)`. -/
theorem slot_emb (k : Fin 4) (r : Fin 512) (l : Fin 1024) :
    (slotM k).view.emb (ix2 r l) = (ix3 k r l : S4x512x1024.Idx) := by
  show (Rect.unit (s := S4x512x1024) (slotOff k) S1x512x1024.size (slot_inb k)).emb (Shape.reshapeEquiv _ (ix2 r l)) = _
  rw [reshapeEquiv_ix2_1ab]
  funext a
  refine Fin.ext ?_
  rw [Rect.emb_apply]
  match a with
  | 0 => show k.val + 1 * 0 = k.val; omega
  | 1 => show 0 + 1 * r.val = r.val; omega
  | 2 => show 0 + 1 * l.val = l.val; omega

/-- Where 512 rows from `o` keep entry `(r, l)`. -/
theorem piece_emb (b : Fin 4) (u : Fin 16) (r : Fin 512) (l : Fin 1024) :
    (pieceM b u).view.emb (ix2 r l) = (ix3 b ⟨512 * u.val + r.val, by have := u.isLt; have := r.isLt; omega⟩ l : S4x8192x1024.Idx) := by
  show (Rect.unit (s := S4x8192x1024) (pieceOff b u) S1x512x1024.size (piece_inb b u)).emb (Shape.reshapeEquiv _ (ix2 r l)) = _
  rw [reshapeEquiv_ix2_1ab]
  funext a
  refine Fin.ext ?_
  rw [Rect.emb_apply]
  match a with
  | 0 => show b.val + 1 * 0 = b.val; omega
  | 1 => show 512 * u.val + 1 * r.val = 512 * u.val + r.val; omega
  | 2 => show 0 + 1 * l.val = l.val; omega

/-- Reading slot `k` of `ringVal X` gives `X`. -/
theorem read_ringVal (k : Fin 4) (X : FVec F S512x1024 .f32) : (slotM k).view.read (Elt F) (ringVal X) = X := by
  funext x
  rw [View.read_apply]
  obtain ⟨r, l, rfl⟩ : ∃ r l, x = ix2 r l := ⟨x 0, x 1, eq_ix2 x⟩
  rw [slot_emb]
  rfl

variable (B : Fin 16 → FVec F S512x1024 .f32) (c : Dev nD)

/-- The result with block `B u` in the rows of block `u` of every batch entry. -/
def outVal : main_v1.ty.Contents (Elt F) :=
  fun (j : S4x8192x1024.Idx) =>
    B ⟨(j 1).val / 512, by have h : (j 1).val < 8192 := (j 1).isLt; show _ < 16; omega⟩
      (ix2 ⟨(j 1).val % 512, Nat.mod_lt _ (by decide)⟩ (j 2))

/-- `outVal` at a piece's entry. -/
theorem outVal_emb (b : Fin 4) (u : Fin 16) (x : S512x1024.Idx) : outVal B ((pieceM b u).view.emb x) = B u x := by
  obtain ⟨r, l, rfl⟩ : ∃ (r : Fin 512) (l : Fin 1024), x = ix2 r l := ⟨x 0, x 1, eq_ix2 x⟩
  rw [piece_emb]
  have hr := r.isLt
  have h1 : (512 * u.val + r.val) / 512 = u.val := by omega
  have h2 : (512 * u.val + r.val) % 512 = r.val := by omega
  show B ⟨(512 * u.val + r.val) / 512, _⟩ (ix2 ⟨(512 * u.val + r.val) % 512, _⟩ l) = _
  congr 1
  · exact Fin.ext h1
  · exact congrArg (fun r => (ix2 r l : S512x1024.Idx)) (Fin.ext h2)

/-- Slot `k`'s elements at share `q`, holding `X`. -/
abbrev slotAt (k : Fin 4) (q : PosShare TreeShare) (f : cc0_scratch0.ty.Contents (Elt F)) : sProp 𝕄 :=
  ((slotM k).view.loc (c : Thread nD τ) ↦[(slotM k).view.set]{q} f)

/-- A piece's elements, holding what `f` has there. -/
abbrev pieceAt (b : Fin 4) (u : Fin 16) (f : main_v1.ty.Contents (Elt F)) : sProp 𝕄 :=
  ((pieceM b u).view.loc (c : Thread nD τ) ↦[(pieceM b u).view.set]{fullShare} f)

/-- The four pieces of a block nothing has been written to yet. -/
def ahead (u : Fin 16) : sProp 𝕄 := bigSep Finset.univ fun b => iprop(∃ f, pieceAt (F := F) c b u f)

/-- The four pieces of a block that has landed. -/
def behind (u : Fin 16) : sProp 𝕄 := bigSep Finset.univ fun b => pieceAt c b u (outVal B)

/-- What copy `b` out of slot `k` delivers when it carries block `u`: its piece written, its share of the slot back. -/
def delivery (k : Fin 4) (u : Fin 16) (b : Fin 4) : sProp 𝕄 :=
  iprop(pieceAt c b u (outVal B) ∗ slotAt c k (Transfers.shareTok fullShare 4 b) (ringVal (B u)))

instance (k : Fin 4) (u : Fin 16) (b : Fin 4) : Storable (upEmb : UEmb _ 𝕄) (delivery B c k u b) := by
  unfold delivery; infer_instance

/-- What one copy adds to its semaphore. -/
def amt : ℕ := (pieceM 0 0).view.amount (SemLoc.dma (cellM 0))

/-- A free slot: its elements, and its semaphore at zero. -/
def free (k : Fin 4) : sProp 𝕄 :=
  iprop((∃ f, slotAt (F := F) c k fullShare f) ∗ semVal ((c : Thread nD τ), SemLoc.dma (cellM k)) 0)

/-- A slot whose four copies of block `u` are in flight. -/
def infl (k : Fin 4) (u : Fin 16) : sProp 𝕄 :=
  iprop(Transfers.Batch (countersEmb (U := Pipeline.UD sig nD τ)) (c : Thread nD τ) (SemLoc.dma (cellM k)) () amt (delivery B c k u) 4 0
    ∗ slotAt c k (Transfers.shareDrop fullShare 4) (ringVal (B u)))

/-- Every copy adds the same, whatever rows it goes to. -/
theorem credit_eq (o : Fin 3 → ℕ) (ho) : (rowsM o ho).view.dmaCredit = amt := by
  unfold amt
  exact (show (rowsM o ho).view.dmaCredit = (pieceM 0 0).view.dmaCredit from rfl)

/-- A copy adds something. -/
theorem amt_pos : 0 < amt := by unfold amt; exact (pieceM 0 0).view.amount_pos _ h_S512x1024

end Cert.KernelIdeal.Hand

end
-- ==== Proof.Slot.lean ====
/-
  The two programs the body runs on a slot, and what each does: four waits take a slot in flight back, with the block it
  carried landed; a store and four copies put a block in flight from a free slot.
-/
module

public import proofs.«01_k».proof.Proof.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The assertions of this proof: the pipeline's, beside the counters of the body's own transfers. -/
local notation "𝕄" => MT nD τ sig Unit (Elt F) ℕ (Pipeline.UD sig nD τ) ℕ

variable (B : Fin 16 → FVec F S512x1024 .f32) (c : Dev nD)

/-- 512 rows from offset `o` lie in the result. -/
abbrev RowsInb (o : Fin 3 → ℕ) : Prop := ∀ a, o a + S1x512x1024.size a ≤ S4x8192x1024.size a

/-- A program of the kernel's core. -/
abbrev CoreProg (F : FTy → Type) [FloatOps F] := Prog (TpuEff nD τ sig (Elt F) Λ₀ (.tc : Proc τ)) PUnit

/-- A wait for one copy out of slot `k`, in the words it is printed with. -/
abbrev waitOp (k : Fin 4) (o : Fin 3 → ℕ) (ho : RowsInb o) (kk : PUnit → CoreProg F) : CoreProg F :=
  .op (.waitDma2 (cellM k) (slotM k) (rowsM o ho) ((View.wordExact_bits rfl).reshape _ _) ((View.wordExact_bits rfl).reshape _ _)) kk

/-- A copy out of slot `k` to 512 rows of the result. -/
abbrev copyOp (k : Fin 4) (o : Fin 3 → ℕ) (ho : RowsInb o) (kk : PUnit → CoreProg F) : CoreProg F :=
  .op (.enqueueDma (slotM k) (.here (rowsM o ho)) (.dma (cellM k)) ((View.wordExact_bits rfl).reshape _ _) ((View.wordExact_bits rfl).reshape _ _) ⟨Or.inl rfl, trivial⟩) kk

/-- The four conjuncts of a family over the batch entries. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What a block's four copies deliver: the block landed, and every share of the slot they read. -/
theorem delivered (k : Fin 4) (u : Fin 16) :
    bigSep Finset.univ (delivery B c k u)
      ⊢ iprop(behind B c u ∗ bigSep Finset.univ fun b : Fin 4 => slotAt c k (Transfers.shareTok fullShare 4 b) (ringVal (B u))) := by
  unfold delivery behind
  exact Entails.of_eq (bigSep_sep' _ _ _)

/-- One of the waits but the last: so many more of the batch's bytes are known to be in. -/
theorem wait_spec {n : ℕ} {D : Fin n → sProp 𝕄} (k : Fin 4) (o : Fin 3 → ℕ) (ho) {u : ℕ} (hu : u + amt < amt * n) (W : Waits sig Unit)
    (kk : PUnit → CoreProg F) (Q : PUnit → sProp 𝕄) :
    iprop(Transfers.Batch (countersEmb (U := Pipeline.UD sig nD τ)) (c : Thread nD τ) (SemLoc.dma (cellM k)) () amt D n u
        ∗ owes (c : Thread nD τ) 0 W)
      ⊢ iprop((iprop(Transfers.Batch (countersEmb (U := Pipeline.UD sig nD τ)) (c : Thread nD τ) (SemLoc.dma (cellM k)) () amt D n (u + amt)
              ∗ owes (c : Thread nD τ) 0 (insert (SemLoc.dma (cellM k), ()) W))
            -∗ wp frame (wpE (defs₀ (F := F)) Variants.none c none) Set.univ (kk ⟨⟩) Q)
          -∗ wp frame (wpE (defs₀ (F := F)) Variants.none c none) Set.univ (waitOp k o ho kk) Q) := by
  have h := Transfers.wp_waitBatch (defs := defs₀ (F := F)) (Q := Q) (k := kk) (Val := Elt F) (D := D) (W := W)
    (countersEmb (U := Pipeline.UD sig nD τ)) Variants.none (c : Thread nD τ) none (sem := cellM k) (srcw := slotM k) (dstw := rowsM o ho)
    (hsrc := (View.wordExact_bits rfl).reshape _ _) (hdst := (View.wordExact_bits rfl).reshape _ _) () (credit_eq o ho) hu
  exact h

/-- The last wait: the whole batch has landed, and the semaphore is at zero. -/
theorem wait_last_spec {n : ℕ} {D : Fin n → sProp 𝕄} (k : Fin 4) (o : Fin 3 → ℕ) (ho) {u : ℕ} (hu : u + amt = amt * n) (W : Waits sig Unit)
    (kk : PUnit → CoreProg F) (Q : PUnit → sProp 𝕄) :
    iprop(Transfers.Batch (countersEmb (U := Pipeline.UD sig nD τ)) (c : Thread nD τ) (SemLoc.dma (cellM k)) () amt D n u
        ∗ owes (c : Thread nD τ) 0 W)
      ⊢ iprop((iprop(bigSep Finset.univ D ∗ semVal ((c : Thread nD τ), SemLoc.dma (cellM k)) 0
              ∗ owes (c : Thread nD τ) 0 (insert (SemLoc.dma (cellM k), ()) W))
            -∗ wp frame (wpE (defs₀ (F := F)) Variants.none c none) Set.univ (kk ⟨⟩) Q)
          -∗ wp frame (wpE (defs₀ (F := F)) Variants.none c none) Set.univ (waitOp k o ho kk) Q) := by
  have h := Transfers.wp_waitBatchLast (defs := defs₀ (F := F)) (Q := Q) (k := kk) (Val := Elt F) (D := D) (W := W)
    (countersEmb (U := Pipeline.UD sig nD τ)) Variants.none (c : Thread nD τ) none (sem := cellM k) (srcw := slotM k) (dstw := rowsM o ho)
    (hsrc := (View.wordExact_bits rfl).reshape _ _) (hdst := (View.wordExact_bits rfl).reshape _ _) () (credit_eq o ho) amt_pos hu
  exact h

/-- Four waits on slot `k`, whatever rows they name: the slot comes back free and the block it carried has landed. -/
theorem waits_spec (k : Fin 4) (u : Fin 16) (o₀ o₁ o₂ o₃ : Fin 3 → ℕ) (h₀ h₁ h₂ h₃) (W : Waits sig Unit) (kk : PUnit → CoreProg F) (Q : PUnit → sProp 𝕄) :
    iprop(infl B c k u ∗ owes (c : Thread nD τ) 0 W)
      ⊢ iprop(((∃ W', owes (c : Thread nD τ) 0 W') -∗ free (F := F) c k -∗ behind B c u
              -∗ wp frame (wpE (defs₀ (F := F)) Variants.none c none) Set.univ (kk ⟨⟩) Q)
          -∗ wp frame (wpE (defs₀ (F := F)) Variants.none c none) Set.univ
            (waitOp k o₀ h₀ fun _ => waitOp k o₁ h₁ fun _ => waitOp k o₂ h₂ fun _ => waitOp k o₃ h₃ kk) Q) := by
  have hp := amt_pos
  unfold infl
  iintro ⟨⟨HB, Hd⟩, HW⟩ Hk
  iapply (wait_spec c (n := 4) k o₀ h₀ (u := 0) (by omega) _ _ _) $$ [HB HW]
  · isplitl [HB]; · iexact HB
    iexact HW
  iintro ⟨HB, HW⟩
  iapply (wait_spec c (n := 4) k o₁ h₁ (u := 0 + amt) (by omega) _ _ _) $$ [HB HW]
  · isplitl [HB]; · iexact HB
    iexact HW
  iintro ⟨HB, HW⟩
  iapply (wait_spec c (n := 4) k o₂ h₂ (u := 0 + amt + amt) (by omega) _ _ _) $$ [HB HW]
  · isplitl [HB]; · iexact HB
    iexact HW
  iintro ⟨HB, HW⟩
  iapply (wait_last_spec c (n := 4) k o₃ h₃ (u := 0 + amt + amt + amt) (by omega) _ _ _) $$ [HB HW]
  · isplitl [HB]; · iexact HB
    iexact HW
  iintro ⟨HD, Hv, HW⟩
  ihave HD := (delivered B c k u) $$ HD
  icases HD with ⟨Hp, Hs⟩
  iapply Hk $$ [HW] [Hd Hs Hv] [Hp]
  · iexists _; iexact HW
  · unfold free
    isplitl [Hd Hs]
    · iexists _
      iapply (Transfers.pointsTo_toks_join fullShare 4)
      isplitl [Hd]; · iexact Hd
      iexact Hs
    iexact Hv
  · iexact Hp

/-- The rectangle of the ring that slot `k` is. -/
abbrev slotR (k : Fin 4) : Rect S4x512x1024 := Rect.unit (s := S4x512x1024) (slotOff k) S1x512x1024.size (slot_inb k)

/-- Filling slot `k` with `X` and starting its four copies, in the words it is printed with (the load's value is dead). -/
abbrev fillOp (k : Fin 4) (X : FVec F S512x1024 .f32) (o₀ o₁ o₂ o₃ : Fin 3 → ℕ)
    (h₀ : RowsInb o₀) (h₁ : RowsInb o₁) (h₂ : RowsInb o₂) (h₃ : RowsInb o₃) (kk : PUnit → CoreProg F) : CoreProg F :=
  .op (.load (Memref.whole cc0_scratch0) (slotR k).toLoadRect (View.loadsAt_vmem h_S1x512x1024)) fun _ =>
  .op (.store (Memref.whole cc0_scratch0) (slotR k) (shapeCast S1x512x1024 X shapeCasts_S512x1024_S1x512x1024) Finset.univ
      (View.stores_vmem_bits_univ h_S1x512x1024 rfl) (.inl rfl)) fun _ =>
  copyOp k o₀ h₀ fun _ => copyOp k o₁ h₁ fun _ => copyOp k o₂ h₂ fun _ => copyOp k o₃ h₃ kk

/-- The elements the rectangle names are the slot's. -/
theorem slotR_set (k : Fin 4) : ((Memref.whole cc0_scratch0).access (slotR k)).set = (slotM k).view.set :=
  (View.set_reshape _ _).symm

/-- Storing `X` in the rectangle makes the slot hold `X`. -/
theorem stored (k : Fin 4) (X : FVec F S512x1024 .f32) (f : cc0_scratch0.ty.Contents (Elt F)) :
    ((slotM k).view.loc (c : Thread nD τ) ↦[(slotM k).view.set]{fullShare}
        (((Memref.whole cc0_scratch0).access (slotR k)).write (Elt F) f (shapeCast S1x512x1024 X shapeCasts_S512x1024_S1x512x1024) Finset.univ) : sProp 𝕄)
      = slotAt c k fullShare (ringVal X) := by
  refine pointsTo_congr fun i hi => ?_
  obtain ⟨x, -, rfl⟩ := Finset.mem_map.mp hi
  obtain ⟨r, l, rfl⟩ : ∃ (r : Fin 512) (l : Fin 1024), x = ix2 r l := ⟨x 0, x 1, eq_ix2 x⟩
  have he : (slotM k).view.emb (ix2 r l) = ((Memref.whole cc0_scratch0).access (slotR k)).emb (ix3 0 r l : S1x512x1024.Idx) := by
    show ((Memref.whole cc0_scratch0).access (slotR k)).emb (Shape.reshapeEquiv _ (ix2 r l)) = _
    rw [reshapeEquiv_ix2_1ab]
    rfl
  rw [show ringVal X ((slotM k).view.emb (ix2 r l)) = X (ix2 r l) from by rw [slot_emb]; rfl, he,
    View.write_emb_of_mem _ _ (Finset.mem_univ _)]
  exact shapeCast_ab_1ab_apply X _ _ _ _

/-- What copy `b` out of a slot holding block `u` writes is block `u`. -/
theorem copied (k b : Fin 4) (u : Fin 16) (f : main_v1.ty.Contents (Elt F)) :
    ((pieceM b u).view.loc (c : Thread nD τ) ↦[(pieceM b u).view.set]{fullShare}
        ((pieceM b u).view.write (Elt F) f (ReadAs.same.apply ((slotM k).view.read (Elt F) (ringVal (B u)))) Finset.univ) : sProp 𝕄)
      = pieceAt c b u (outVal B) := by
  refine pointsTo_congr fun i hi => ?_
  obtain ⟨x, -, rfl⟩ := Finset.mem_map.mp hi
  rw [View.write_emb_of_mem _ _ (Finset.mem_univ _), outVal_emb, read_ringVal]
  rfl

/-- One copy: it takes its piece and its share of the slot, and joins the batch. -/
theorem copy_spec (k b : Fin 4) (u : Fin 16) (o : Fin 3 → ℕ) (ho) (hob : o = pieceOff b u) (f : main_v1.ty.Contents (Elt F))
    (kk : PUnit → CoreProg F) (Q : PUnit → sProp 𝕄) :
    iprop(slotAt c k (Transfers.shareTok fullShare 4 b) (ringVal (B u)) ∗ pieceAt c b u f
        ∗ Transfers.Batch (countersEmb (U := Pipeline.UD sig nD τ)) (c : Thread nD τ) (SemLoc.dma (cellM k)) () amt (delivery B c k u) b.val 0)
      ⊢ iprop((Transfers.Batch (countersEmb (U := Pipeline.UD sig nD τ)) (c : Thread nD τ) (SemLoc.dma (cellM k)) () amt (delivery B c k u) (b.val + 1) 0
            -∗ wp frame (wpE (defs₀ (F := F)) Variants.none c none) Set.univ (kk ⟨⟩) Q)
          -∗ wp frame (wpE (defs₀ (F := F)) Variants.none c none) Set.univ (copyOp k o ho kk) Q) := by
  subst hob
  have h := Transfers.wp_dmaBatch (defs := defs₀ (F := F)) (Q := Q) (k := kk) (Val := Elt F) (D := delivery B c k u)
    (countersEmb (U := Pipeline.UD sig nD τ)) Variants.none (c : Thread nD τ) none (src := slotM k) (via := .same) (dst := pieceM b u)
    (sm := .dma (cellM k)) (hsrc := (View.wordExact_bits rfl).reshape _ _) (hdst := (View.wordExact_bits rfl).reshape _ _)
    (hsem := ⟨Or.inl rfl, trivial⟩) (q := Transfers.shareTok fullShare 4 b) (fs := ringVal (B u)) (fd := f)
    (Sd := (pieceM b u).view.set) (j := b.val) (u := 0) () amt (credit_eq _ _) (Finset.Subset.refl _) b.isLt (Nat.zero_le _)
    (by rw [copied]; exact .rfl)
  exact h

/-- Filling a free slot with block `u` and copying it to the four batch entries puts the block in flight. -/
theorem fill_spec (k : Fin 4) (u : Fin 16) (X : FVec F S512x1024 .f32) (hX : X = B u) (o₀ o₁ o₂ o₃ : Fin 3 → ℕ) (h₀ h₁ h₂ h₃)
    (e₀ : o₀ = pieceOff 0 u) (e₁ : o₁ = pieceOff 1 u) (e₂ : o₂ = pieceOff 2 u) (e₃ : o₃ = pieceOff 3 u)
    (kk : PUnit → CoreProg F) (Q : PUnit → sProp 𝕄) :
    iprop(free (F := F) c k ∗ ahead (F := F) c u)
      ⊢ iprop((infl B c k u -∗ wp frame (wpE (defs₀ (F := F)) Variants.none c none) Set.univ (kk ⟨⟩) Q)
          -∗ wp frame (wpE (defs₀ (F := F)) Variants.none c none) Set.univ (fillOp k X o₀ o₁ o₂ o₃ h₀ h₁ h₂ h₃ kk) Q) := by
  subst hX
  unfold free ahead
  rw [bigSep_four]
  iintro ⟨⟨⟨%f, Hs⟩, Hv⟩, ⟨⟨%g₀, H₀⟩, ⟨%g₁, H₁⟩, ⟨%g₂, H₂⟩, ⟨%g₃, H₃⟩⟩⟩ Hk
  iapply (wp_load_rect (defs := defs₀ (F := F)) Variants.none (c : Thread nD τ) none Set.univ (m := Memref.whole cc0_scratch0) (r := slotR k)
    (slotR_set k).subset) $$ Hs
  iintro Hs
  iapply (wp_store (defs := defs₀ (F := F)) Variants.none (c : Thread nD τ) none Set.univ (m := Memref.whole cc0_scratch0) (r := slotR k) (Mk := Finset.univ)
    (slotR_set k).subset) $$ Hs
  iintro Hs
  ihave Hs := (Entails.of_eq (stored c k (B u) f)) $$ Hs
  ihave Hs := (Transfers.pointsTo_toks_split fullShare 4) $$ Hs
  icases Hs with ⟨Hd, Ht⟩
  ihave Ht := (Entails.of_eq (bigSep_four _)) $$ Ht
  icases Ht with ⟨T₀, T₁, T₂, T₃⟩
  imod (Transfers.batch_alloc' (Lvl := ℕ) (countersEmb (U := Pipeline.UD sig nD τ)) (c : Thread nD τ) () amt (delivery B c k u)
    (sm := .dma (cellM k)) (E := Set.univ)) $$ Hv with HB
  iapply (copy_spec B c k 0 u o₀ h₀ e₀ g₀ _ _) $$ [T₀ H₀ HB]
  · isplitl [T₀]; · iexact T₀
    isplitl [H₀]; · iexact H₀
    iexact HB
  iintro HB
  iapply (copy_spec B c k 1 u o₁ h₁ e₁ g₁ _ _) $$ [T₁ H₁ HB]
  · isplitl [T₁]; · iexact T₁
    isplitl [H₁]; · iexact H₁
    iexact HB
  iintro HB
  iapply (copy_spec B c k 2 u o₂ h₂ e₂ g₂ _ _) $$ [T₂ H₂ HB]
  · isplitl [T₂]; · iexact T₂
    isplitl [H₂]; · iexact H₂
    iexact HB
  iintro HB
  iapply (copy_spec B c k 3 u o₃ h₃ e₃ g₃ _ _) $$ [T₃ H₃ HB]
  · isplitl [T₃]; · iexact T₃
    isplitl [H₃]; · iexact H₃
    iexact HB
  iintro HB
  iapply Hk
  unfold infl
  isplitl [HB]; · iexact HB
  iexact Hd

end Cert.KernelIdeal.Hand

end
-- ==== Proof.Body.lean ====
/-
  The printed body as two loads, one turn for each slot and the last point's drain.
-/
module

public import proofs.«01_k».proof.Proof.Gen.KernelIdeal.Skeleton
public import proofs.«01_k».proof.Proof.Slot

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The assertions of this proof: the pipeline's, beside the counters of the body's own transfers. -/
local notation "𝕄" => MT nD τ sig Unit (Elt F) ℕ (Pipeline.UD sig nD τ) ℕ

/-- One slot's turn, in the words it is printed with: at the points of its residue, it is waited for (but for the first
    four points), filled and copied out. -/
abbrev turn (k : Fin 4) (X : FVec F S512x1024 .f32) (c₁ c₂ : BitVec 1) (w : Fin 4 → Fin 3 → ℕ)
    (hw : c₁ = 1#1 → c₂ = 1#1 → ∀ b, RowsInb (w b)) (o : Fin 4 → Fin 3 → ℕ) (ho : c₁ = 1#1 → ∀ b, RowsInb (o b))
    (kk : PUnit → CoreProg F) : CoreProg F :=
  if h₁ : c₁ = 1#1 then
    if h₂ : c₂ = 1#1 then
      waitOp k (w 0) (hw h₁ h₂ 0) fun _ => waitOp k (w 1) (hw h₁ h₂ 1) fun _ => waitOp k (w 2) (hw h₁ h₂ 2) fun _ =>
      waitOp k (w 3) (hw h₁ h₂ 3) fun _ =>
      fillOp k X (o 0) (o 1) (o 2) (o 3) (ho h₁ 0) (ho h₁ 1) (ho h₁ 2) (ho h₁ 3) kk
    else
      fillOp k X (o 0) (o 1) (o 2) (o 3) (ho h₁ 0) (ho h₁ 1) (ho h₁ 2) (ho h₁ 3) kk
  else kk ⟨⟩

/-- The top rows of batch entry `b`, which the drain's waits name. -/
abbrev topOff (b : Fin 4) : Fin 3 → ℕ := ![b.val, 0, 0]

/-- The top rows lie inside the result. -/
theorem top_inb (b : Fin 4) : RowsInb (topOff b) := fun a => by
  match a with
  | 0 => show b.val + 1 ≤ 4; omega
  | 1 => show 0 + 512 ≤ 8192; omega
  | 2 => show 0 + 1024 ≤ 1024; omega

/-- Waiting for one slot's four copies, naming the top rows. -/
abbrev drainOne (k : Fin 4) (kk : PUnit → CoreProg F) : CoreProg F :=
  waitOp k (topOff 0) (top_inb 0) fun _ => waitOp k (topOff 1) (top_inb 1) fun _ => waitOp k (topOff 2) (top_inb 2) fun _ =>
  waitOp k (topOff 3) (top_inb 3) kk

/-- The last point's drain of the ring. -/
abbrev drain (h : BitVec 1) (kk : PUnit → CoreProg F) : CoreProg F :=
  if _h : h = 1#1 then drainOne 0 fun _ => drainOne 1 fun _ => drainOne 2 fun _ => drainOne 3 kk else kk ⟨⟩

/-- Whether the drain is due. -/
def lastCond (i : grid0.Coords) : BitVec 1 :=
  Scalar.cmpi .ne (Scalar.extui (Scalar.cmpi .eq (BitVec.ofNat 32 (i 0).val) 15#32) : BitVec 32) 0#32

/-- What follows a conditional is moved into both of its branches. -/
theorem dite_bind {ε : Type → Type _} {α β : Type} (c : Prop) [Decidable c] (a : c → Prog ε α) (b : ¬ c → Prog ε α) (f : α → Prog ε β) :
    dite c a b >>= f = dite c (fun h => a h >>= f) (fun h => b h >>= f) := by
  split <;> rfl

/-- A branch that does nothing hands on to what follows. -/
theorem pure_bind_unit {ε : Type → Type _} {β : Type} (f : PUnit → Prog ε β) : (pure PUnit.unit : Prog ε PUnit) >>= f = f ⟨⟩ := rfl

/-- Four row ranges that each lie inside the result, as one family. -/
theorem four_inb {o₀ o₁ o₂ o₃ : Fin 3 → ℕ} (h₀ : RowsInb o₀) (h₁ : RowsInb o₁) (h₂ : RowsInb o₂) (h₃ : RowsInb o₃) :
    ∀ b : Fin 4, RowsInb ((![o₀, o₁, o₂, o₃] : Fin 4 → Fin 3 → ℕ) b)
  | 0 => h₀
  | 1 => h₁
  | 2 => h₂
  | 3 => h₃

/-- The body of the kernel, in those words. -/
abbrev words (i : grid0.Coords) (arg1 : Memref sig .tc .vmem S512x1024 .f32) (arg2 : Memref sig .tc .vmem S1x8x1024 .f32) : CoreProg F :=
  .op (.load arg1 (Rect.unit (s := S512x1024) ![0, 0] S512x1024.size inb_S512x1024_S512x1024_0_0).toLoadRect (View.loadsAt_vmem h_S512x1024)) fun v₀ =>
  .op (.load arg2 (Rect.unit (s := S1x8x1024) ![0, 0, 0] S1x1x1024.size inb_S1x8x1024_S1x1x1024_0_0_0).toLoadRect (View.loadsAt_vmem h_S1x1x1024)) fun v₁ =>
  turn 0 (k0_pay1 (k0_pay8 v₀ v₁) (k0_pay9 v₀ v₁)) (k0_cond1 i) (k0_cond2 i) ![k0_off1 i, k0_off2 i, k0_off3 i, k0_off4 i]
    (fun h₁ h₂ => four_inb (k0_off1_inb i h₁ h₂) (k0_off2_inb i h₁ h₂) (k0_off3_inb i h₁ h₂) (k0_off4_inb i h₁ h₂))
    ![k0_off5 i, k0_off6 i, k0_off7 i, k0_off8 i] (fun h₁ => four_inb (k0_off5_inb i h₁) (k0_off6_inb i h₁) (k0_off7_inb i h₁) (k0_off8_inb i h₁)) fun _ =>
  turn 1 (k0_pay1 (k0_pay8 v₀ v₁) (k0_pay9 v₀ v₁)) (k0_cond3 i) (k0_cond4 i) ![k0_off9 i, k0_off10 i, k0_off11 i, k0_off12 i]
    (fun h₁ h₂ => four_inb (k0_off9_inb i h₁ h₂) (k0_off10_inb i h₁ h₂) (k0_off11_inb i h₁ h₂) (k0_off12_inb i h₁ h₂))
    ![k0_off13 i, k0_off14 i, k0_off15 i, k0_off16 i] (fun h₁ => four_inb (k0_off13_inb i h₁) (k0_off14_inb i h₁) (k0_off15_inb i h₁) (k0_off16_inb i h₁)) fun _ =>
  turn 2 (k0_pay1 (k0_pay8 v₀ v₁) (k0_pay9 v₀ v₁)) (k0_cond5 i) (k0_cond6 i) ![k0_off17 i, k0_off18 i, k0_off19 i, k0_off20 i]
    (fun h₁ h₂ => four_inb (k0_off17_inb i h₁ h₂) (k0_off18_inb i h₁ h₂) (k0_off19_inb i h₁ h₂) (k0_off20_inb i h₁ h₂))
    ![k0_off21 i, k0_off22 i, k0_off23 i, k0_off24 i] (fun h₁ => four_inb (k0_off21_inb i h₁) (k0_off22_inb i h₁) (k0_off23_inb i h₁) (k0_off24_inb i h₁)) fun _ =>
  turn 3 (k0_pay1 (k0_pay8 v₀ v₁) (k0_pay9 v₀ v₁)) (k0_cond7 i) (k0_cond8 i) ![k0_off25 i, k0_off26 i, k0_off27 i, k0_off28 i]
    (fun h₁ h₂ => four_inb (k0_off25_inb i h₁ h₂) (k0_off26_inb i h₁ h₂) (k0_off27_inb i h₁ h₂) (k0_off28_inb i h₁ h₂))
    ![k0_off29 i, k0_off30 i, k0_off31 i, k0_off32 i] (fun h₁ => four_inb (k0_off29_inb i h₁) (k0_off30_inb i h₁) (k0_off31_inb i h₁) (k0_off32_inb i h₁)) fun _ =>
  drain (lastCond i) fun _ => .ret ⟨⟩

/-- The printed body is those words. -/
theorem body_eq (i : grid0.Coords) (arg1 : Memref sig .tc .vmem S512x1024 .f32) (harg1) (arg2 : Memref sig .tc .vmem S1x8x1024 .f32) (harg2) (harg3) (harg4) :
    cc0__ring_kernel (F := F) i arg1 harg1 arg2 harg2 (Memref.whole main_v1) harg3 (Memref.whole cc0_scratch0) harg4 cc0_scratch1
      = words i arg1 arg2 := by
  unfold cc0__ring_kernel k0_part12 k0_part11 k0_part10 k0_part9 k0_part8 k0_part7 k0_part6 k0_part5 k0_part4 k0_part3 k0_part2 k0_part1
  simp only [dite_bind, bind_assoc, Prog.bind_lift, Prog.bind_op, Prog.bind_ret, pure_bind_unit]
  rfl

end Cert.KernelIdeal.Hand

end
-- ==== Proof.Inv.lean ====
/-
  What holds between points: the blocks not yet written, the blocks landed, and each slot free or in flight; and what a
  slot's turn and the drain do to it.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The assertions of this proof: the pipeline's, beside the counters of the body's own transfers. -/
local notation "𝕄" => MT nD τ sig Unit (Elt F) ℕ (Pipeline.UD sig nD τ) ℕ

variable (B : Fin 16 → FVec F S512x1024 .f32) (c : Dev nD)

/-- The blocks from `n` on. -/
def todo (n : ℕ) : Finset (Fin 16) := Finset.univ.filter fun u => n ≤ u.val

/-- The blocks below `n`. -/
def done (n : ℕ) : Finset (Fin 16) := Finset.univ.filter fun u => u.val < n

theorem mem_todo (n : ℕ) (u : Fin 16) : u ∈ todo n ↔ n ≤ u.val := by unfold todo; simp
theorem mem_done (n : ℕ) (u : Fin 16) : u ∈ done n ↔ u.val < n := by unfold done; simp

theorem todo_zero : todo 0 = Finset.univ := by ext u; simp [mem_todo]
theorem todo_end : todo 16 = ∅ := by ext u; have := u.isLt; simp [mem_todo]
theorem done_zero : done 0 = ∅ := by ext u; simp [mem_done]
theorem done_end : done 16 = Finset.univ := by ext u; have := u.isLt; simp [mem_done]

/-- The first block to be written leaves the others. -/
theorem todo_take (Φ : Fin 16 → sProp 𝕄) (u : Fin 16) :
    bigSep (todo u.val) Φ = iprop(Φ u ∗ bigSep (todo (u.val + 1)) Φ) := by
  have h : todo u.val = insert u (todo (u.val + 1)) := by
    ext v; rw [mem_todo, Finset.mem_insert, mem_todo, Fin.ext_iff]; omega
  rw [h]
  exact bigSep_insert (by rw [mem_todo]; omega)

/-- A block landed joins those landed before it. -/
theorem done_put (Φ : Fin 16 → sProp 𝕄) (u : Fin 16) {m : ℕ} (hm : m = u.val + 1) :
    bigSep (done m) Φ = iprop(Φ u ∗ bigSep (done u.val) Φ) := by
  subst hm
  have h : done (u.val + 1) = insert u (done u.val) := by
    ext v; rw [mem_done, Finset.mem_insert, mem_done, Fin.ext_iff]; omega
  rw [h]
  exact bigSep_insert (by rw [mem_done]; omega)

/-- The last block below `p` that slot `k` carries (when there is one). -/
def lastIn (p : ℕ) (k : Fin 4) : Fin 16 := ⟨(p - 1 - (p - 1 - k.val) % 4) % 16, Nat.mod_lt _ (by decide)⟩

/-- Slot `k` before point `p`. -/
def slotAtPoint (p : ℕ) (k : Fin 4) : sProp 𝕄 :=
  if k.val < p then infl B c k (lastIn p k) else free c k

/-- What holds before point `p`. -/
def Inv (p : ℕ) : sProp 𝕄 :=
  iprop(bigSep (todo p) (ahead c) ∗ bigSep (done (p - 4)) (behind B c) ∗ bigSep Finset.univ (slotAtPoint B c p))

/-- What holds after the drain: every block landed, every slot free. -/
def Final : sProp 𝕄 := iprop(bigSep Finset.univ (behind B c) ∗ bigSep Finset.univ (free (F := F) c))

/-- A slot whose turn it is not stays as it is. -/
theorem slot_other (u : Fin 16) (k j : Fin 4) (hk : u.val % 4 = k.val) (hj : j ≠ k) :
    slotAtPoint B c u.val j = slotAtPoint B c (u.val + 1) j := by
  have hj' : j.val ≠ k.val := fun h => hj (Fin.ext h)
  have h4 := j.isLt
  unfold slotAtPoint
  have hl : j.val < u.val → lastIn u.val j = lastIn (u.val + 1) j := fun h => by
    unfold lastIn; refine Fin.ext ?_; show _ % 16 = _ % 16; congr 1; omega
  by_cases h : j.val < u.val
  · rw [if_pos h, if_pos (by omega), hl h]
  · rw [if_neg h, if_neg (by omega)]

/-- After its turn a slot carries the point's block. -/
theorem slot_after (u : Fin 16) (k : Fin 4) (hk : u.val % 4 = k.val) : slotAtPoint B c (u.val + 1) k = infl B c k u := by
  have hu := u.isLt
  unfold slotAtPoint
  rw [if_pos (by omega)]
  congr 1
  refine Fin.ext ?_
  show (u.val + 1 - 1 - (u.val + 1 - 1 - k.val) % 4) % 16 = u.val
  omega

/-- At the first four points the slot whose turn it is is free. -/
theorem slot_boot (u : Fin 16) (k : Fin 4) (hk : u.val % 4 = k.val) (hu : u.val < 4) : slotAtPoint B c u.val k = free c k := by
  unfold slotAtPoint
  rw [if_neg (by omega)]

/-- From the fifth on it carries the block of four points ago. -/
theorem slot_steady (u v : Fin 16) (k : Fin 4) (hk : u.val % 4 = k.val) (hv : u.val = v.val + 4) :
    slotAtPoint B c u.val k = infl B c k v := by
  have hu := u.isLt
  unfold slotAtPoint
  rw [if_pos (by omega)]
  congr 1
  refine Fin.ext ?_
  show (u.val - 1 - (u.val - 1 - k.val) % 4) % 16 = v.val
  omega

/-- Before the drain slot `k` carries one of the last four blocks. -/
theorem slot_end (k : Fin 4) (u : Fin 16) (hu : u.val = 12 + k.val) : slotAtPoint B c 16 k = infl B c k u := by
  have h4 := k.isLt
  unfold slotAtPoint
  rw [if_pos (by omega)]
  congr 1
  refine Fin.ext ?_
  show (16 - 1 - (16 - 1 - k.val) % 4) % 16 = u.val
  omega

/-- The slots before a point: the one whose turn it is, and the others as they are after the point. -/
theorem slots_open (u : Fin 16) (k : Fin 4) (hk : u.val % 4 = k.val) :
    bigSep Finset.univ (slotAtPoint B c u.val)
      = iprop(slotAtPoint B c u.val k ∗ bigSep (Finset.univ.erase k) (slotAtPoint B c (u.val + 1))) := by
  refine (bigSep_erase (Finset.mem_univ k)).trans ?_
  rw [bigSep_congr (s := Finset.univ.erase k) fun j hj => slot_other B c u k j hk (Finset.ne_of_mem_erase hj)]
  rfl

/-- The same after the point: the slot whose turn it was is in flight. -/
theorem slots_close (u : Fin 16) (k : Fin 4) (hk : u.val % 4 = k.val) :
    bigSep Finset.univ (slotAtPoint B c (u.val + 1))
      = iprop(infl B c k u ∗ bigSep (Finset.univ.erase k) (slotAtPoint B c (u.val + 1))) := by
  refine (bigSep_erase (Finset.mem_univ k)).trans ?_
  rw [slot_after B c u k hk]
  rfl

/-- What holds at point `u` before slot `k`'s turn. -/
def Mid (u : Fin 16) (k : ℕ) : sProp 𝕄 := if u.val % 4 < k then Inv B c (u.val + 1) else Inv B c u.val

/-- The turn of slot `k` at point `u`. -/
theorem turn_spec (u : Fin 16) (k : Fin 4) (X : FVec F S512x1024 .f32) (hX : X = B u) (c₁ c₂ : BitVec 1) (w hw) (o : Fin 4 → Fin 3 → ℕ) (ho)
    (hc₁ : c₁ = 1#1 ↔ u.val % 4 = k.val) (hc₂ : c₂ = 1#1 ↔ 4 ≤ u.val) (hoff : c₁ = 1#1 → ∀ b, o b = pieceOff b u)
    (kk : PUnit → CoreProg F) (Q : PUnit → sProp 𝕄) :
    iprop(Mid B c u k.val ∗ ∃ W, owes (c : Thread nD τ) 0 W)
      ⊢ iprop(((∃ W, owes (c : Thread nD τ) 0 W) -∗ Mid B c u (k.val + 1)
            -∗ wp frame (wpE (defs₀ (F := F)) Variants.none c none) Set.univ (kk ⟨⟩) Q)
          -∗ wp frame (wpE (defs₀ (F := F)) Variants.none c none) Set.univ (turn k X c₁ c₂ w hw o ho kk) Q) := by
  by_cases hk : u.val % 4 = k.val
  · have h₁ := hc₁.mpr hk
    rw [show Mid B c u k.val = Inv B c u.val from if_neg (by omega), show Mid B c u (k.val + 1) = Inv B c (u.val + 1) from if_pos (by omega)]
    unfold turn
    rw [dif_pos h₁]
    unfold Inv
    rw [todo_take, slots_open B c u k hk, slots_close B c u k hk]
    by_cases h₂ : c₂ = 1#1
    · have h4 := hc₂.mp h₂
      obtain ⟨v, hv⟩ : ∃ v : Fin 16, u.val = v.val + 4 := ⟨⟨u.val - 4, by omega⟩, by show _ = u.val - 4 + 4; omega⟩
      rw [dif_pos h₂, slot_steady B c u v k hk hv, show u.val - 4 = v.val by omega, done_put (behind B c) v (m := u.val + 1 - 4) (by omega)]
      iintro ⟨⟨⟨Ha, Hr⟩, Hb, Hs, Ho⟩, ⟨%W, HW⟩⟩ Hk
      iapply (waits_spec B c k v _ _ _ _ _ _ _ _ W _ _) $$ [Hs HW]
      · isplitl [Hs]; · iexact Hs
        iexact HW
      iintro HW Hf Hv
      iapply (fill_spec B c k u X hX _ _ _ _ _ _ _ _ (hoff h₁ 0) (hoff h₁ 1) (hoff h₁ 2) (hoff h₁ 3) _ _) $$ [Hf Ha]
      · isplitl [Hf]; · iexact Hf
        iexact Ha
      iintro Hs
      iapply Hk $$ HW
      isplitl [Hr]; · iexact Hr
      isplitl [Hb Hv]
      · isplitl [Hv]; · iexact Hv
        iexact Hb
      isplitl [Hs]; · iexact Hs
      iexact Ho
    · have h4 : u.val < 4 := Nat.lt_of_not_le fun h => h₂ (hc₂.mpr h)
      rw [dif_neg h₂, slot_boot B c u k hk h4, show u.val - 4 = 0 by omega, show u.val + 1 - 4 = 0 by omega]
      iintro ⟨⟨⟨Ha, Hr⟩, Hb, Hs, Ho⟩, HW⟩ Hk
      iapply (fill_spec B c k u X hX _ _ _ _ _ _ _ _ (hoff h₁ 0) (hoff h₁ 1) (hoff h₁ 2) (hoff h₁ 3) _ _) $$ [Hs Ha]
      · isplitl [Hs]; · iexact Hs
        iexact Ha
      iintro Hs
      iapply Hk $$ HW
      isplitl [Hr]; · iexact Hr
      isplitl [Hb]; · iexact Hb
      isplitl [Hs]; · iexact Hs
      iexact Ho
  · have hM : Mid B c u k.val = Mid B c u (k.val + 1) := by
      unfold Mid
      by_cases h : u.val % 4 < k.val
      · rw [if_pos h, if_pos (by omega)]
      · rw [if_neg h, if_neg (by omega)]
    unfold turn
    rw [dif_neg (fun h => hk (hc₁.mp h)), hM]
    iintro ⟨HM, HW⟩ Hk
    iapply Hk $$ HW HM

/-- Draining one slot. -/
theorem drainOne_spec (k : Fin 4) (u : Fin 16) {m : ℕ} (hm : m = u.val + 1) (kk : PUnit → CoreProg F) (Q : PUnit → sProp 𝕄) :
    iprop(infl B c k u ∗ bigSep (done u.val) (behind B c) ∗ ∃ W, owes (c : Thread nD τ) 0 W)
      ⊢ iprop(((∃ W, owes (c : Thread nD τ) 0 W) -∗ free (F := F) c k -∗ bigSep (done m) (behind B c)
            -∗ wp frame (wpE (defs₀ (F := F)) Variants.none c none) Set.univ (kk ⟨⟩) Q)
          -∗ wp frame (wpE (defs₀ (F := F)) Variants.none c none) Set.univ (drainOne k kk) Q) := by
  rw [done_put (behind B c) u hm]
  iintro ⟨Hs, Hb, ⟨%W, HW⟩⟩ Hk
  iapply (waits_spec B c k u _ _ _ _ _ _ _ _ W _ _) $$ [Hs HW]
  · isplitl [Hs]; · iexact Hs
    iexact HW
  iintro HW Hf Hv
  iapply Hk $$ HW Hf
  isplitl [Hv]; · iexact Hv
  iexact Hb

/-- The drain of the whole ring. -/
theorem drain_spec (h : BitVec 1) (hh : h = 1#1) (kk : PUnit → CoreProg F) (Q : PUnit → sProp 𝕄) :
    iprop(Inv B c 16 ∗ ∃ W, owes (c : Thread nD τ) 0 W)
      ⊢ iprop(((∃ W, owes (c : Thread nD τ) 0 W) -∗ Final B c
            -∗ wp frame (wpE (defs₀ (F := F)) Variants.none c none) Set.univ (kk ⟨⟩) Q)
          -∗ wp frame (wpE (defs₀ (F := F)) Variants.none c none) Set.univ (drain h kk) Q) := by
  unfold drain Inv Final
  rw [dif_pos hh, todo_end, bigSep_four, bigSep_four, ← done_end, slot_end B c 0 12 rfl, slot_end B c 1 13 rfl, slot_end B c 2 14 rfl, slot_end B c 3 15 rfl]
  iintro ⟨⟨-, Hb, H₀, H₁, H₂, H₃⟩, HW⟩ Hk
  iapply (drainOne_spec B c 0 12 (m := 13) rfl _ _) $$ [H₀ Hb HW]
  · isplitl [H₀]; · iexact H₀
    isplitl [Hb]; · iexact Hb
    iexact HW
  iintro HW F₀ Hb
  iapply (drainOne_spec B c 1 13 (m := 14) rfl _ _) $$ [H₁ Hb HW]
  · isplitl [H₁]; · iexact H₁
    isplitl [Hb]; · iexact Hb
    iexact HW
  iintro HW F₁ Hb
  iapply (drainOne_spec B c 2 14 (m := 15) rfl _ _) $$ [H₂ Hb HW]
  · isplitl [H₂]; · iexact H₂
    isplitl [Hb]; · iexact Hb
    iexact HW
  iintro HW F₂ Hb
  iapply (drainOne_spec B c 3 15 (m := 16) rfl _ _) $$ [H₃ Hb HW]
  · isplitl [H₃]; · iexact H₃
    isplitl [Hb]; · iexact Hb
    iexact HW
  iintro HW F₃ Hb
  iapply Hk $$ HW
  isplitl [Hb]; · iexact Hb
  isplitl [F₀]; · iexact F₀
  isplitl [F₁]; · iexact F₁
  isplitl [F₂]; · iexact F₂
  iexact F₃

end Cert.KernelIdeal.Hand

end
-- ==== Proof.Point.lean ====
/-
  What the kernel's conditions and offsets are at each of the sixteen points.
-/
module

public import proofs.«01_k».proof.Proof.Inv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The assertions of this proof: the pipeline's, beside the counters of the body's own transfers. -/
local notation "𝕄" => MT nD τ sig Unit (Elt F) ℕ (Pipeline.UD sig nD τ) ℕ

/-- A grid point as a block number. -/
def pt (t : Fin cfg0.N) : Fin 16 := ⟨t.val, t.isLt⟩

/-! A slot's turn is at the points of its residue; it is waited for from the fifth point on. -/

theorem cond_1 (t : Fin cfg0.N) : k0_cond1 (grid0.coords t) = 1#1 ↔ t.val % 4 = 0 := by revert t; decide
theorem cond_2 (t : Fin cfg0.N) : k0_cond2 (grid0.coords t) = 1#1 ↔ 4 ≤ t.val := by revert t; decide
theorem cond_3 (t : Fin cfg0.N) : k0_cond3 (grid0.coords t) = 1#1 ↔ t.val % 4 = 1 := by revert t; decide
theorem cond_4 (t : Fin cfg0.N) : k0_cond4 (grid0.coords t) = 1#1 ↔ 4 ≤ t.val := by revert t; decide
theorem cond_5 (t : Fin cfg0.N) : k0_cond5 (grid0.coords t) = 1#1 ↔ t.val % 4 = 2 := by revert t; decide
theorem cond_6 (t : Fin cfg0.N) : k0_cond6 (grid0.coords t) = 1#1 ↔ 4 ≤ t.val := by revert t; decide
theorem cond_7 (t : Fin cfg0.N) : k0_cond7 (grid0.coords t) = 1#1 ↔ t.val % 4 = 3 := by revert t; decide
theorem cond_8 (t : Fin cfg0.N) : k0_cond8 (grid0.coords t) = 1#1 ↔ 4 ≤ t.val := by revert t; decide

/-- The drain is at the last point. -/
theorem cond_last (t : Fin cfg0.N) : lastCond (grid0.coords t) = 1#1 ↔ t.val = 15 := by revert t; decide

/-! The four copies of a turn go to the point's block of the four batch entries. -/

theorem offs_0 (t : Fin cfg0.N) (b : Fin 4) : (![k0_off5 (grid0.coords t), k0_off6 (grid0.coords t), k0_off7 (grid0.coords t), k0_off8 (grid0.coords t)] : Fin 4 → Fin 3 → ℕ) b = pieceOff b (pt t) := by
  revert t b; decide
theorem offs_1 (t : Fin cfg0.N) (b : Fin 4) : (![k0_off13 (grid0.coords t), k0_off14 (grid0.coords t), k0_off15 (grid0.coords t), k0_off16 (grid0.coords t)] : Fin 4 → Fin 3 → ℕ) b = pieceOff b (pt t) := by
  revert t b; decide
theorem offs_2 (t : Fin cfg0.N) (b : Fin 4) : (![k0_off21 (grid0.coords t), k0_off22 (grid0.coords t), k0_off23 (grid0.coords t), k0_off24 (grid0.coords t)] : Fin 4 → Fin 3 → ℕ) b = pieceOff b (pt t) := by
  revert t b; decide
theorem offs_3 (t : Fin cfg0.N) (b : Fin 4) : (![k0_off29 (grid0.coords t), k0_off30 (grid0.coords t), k0_off31 (grid0.coords t), k0_off32 (grid0.coords t)] : Fin 4 → Fin 3 → ℕ) b = pieceOff b (pt t) := by
  revert t b; decide

end Cert.KernelIdeal.Hand

end
-- ==== Proof.Step.lean ====
/-
  The body at a point, from one point's invariant to the next's: the two blocks are loaded, the four slots take their turns,
  and at the last point the ring is drained.
-/
module

public import proofs.«01_k».proof.Proof.Point

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The assertions of this proof: the pipeline's, beside the counters of the body's own transfers. -/
local notation "𝕄" => MT nD τ sig Unit (Elt F) ℕ (Pipeline.UD sig nD τ) ℕ

variable (m : (ℓ : Loc nD τ sig) → Buf (Elt F) ℓ)

/-- The base block of a point, as the body loads it. -/
def baseAt (c : Dev nD) (t : Fin cfg0.N) : FVec F S512x1024 .f32 := fun x =>
  iblk m c 0 t ((Rect.unit (s := S512x1024) ![0, 0] S512x1024.size inb_S512x1024_S512x1024_0_0).emb x)

/-- The row of a point, as the body loads it. -/
def rowAt (c : Dev nD) (t : Fin cfg0.N) : FVec F S1x1x1024 .f32 := fun x =>
  iblk m c 1 t ((Rect.unit (s := S1x8x1024) ![0, 0, 0] S1x1x1024.size inb_S1x8x1024_S1x1x1024_0_0_0).emb x)

/-- The block the body computes at each point. -/
def blocks (c : Dev nD) (u : Fin 16) : FVec F S512x1024 .f32 :=
  k0_pay1 (k0_pay8 (baseAt m c u) (rowAt m c u)) (k0_pay9 (baseAt m c u) (rowAt m c u))

/-- What holds before a point, and after the last. -/
def PhiAt (c : Dev nD) (t : Fin (cfg0.N + 1)) : sProp 𝕄 :=
  iprop((if t.val = 16 then Final (blocks m c) c else Inv (blocks m c) c t.val) ∗ ∃ r, prngReg c r)

/-- The proof data of the pipeline: the arrays as the region finds them, each window's block left in place, the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := PhiAt m c t
  q _ := fullShare
  owed _ := 0

/-- Each window stages its array as the region finds it. -/
theorem A_eq (c : Dev nD) (w : Fin cfg0.W) : (dats m 0 c).A w = V m c (Pipeline.arrRef spec0 w) := by
  dsimp only [dats]

/-- The body leaves the base block in place, -/
theorem after_base (c : Dev nD) (t : Fin cfg0.N) : (dats m 0 c).after 0 t = iblk m c 0 t := by dsimp only [dats]
/-- and the row too. -/
theorem after_row (c : Dev nD) (t : Fin cfg0.N) : (dats m 0 c).after 1 t = iblk m c 1 t := by dsimp only [dats]

/-- A window's staging buffer holds its block before the body. -/
theorem before_base (c : Dev nD) (t : Fin cfg0.N) (d) : (dats m 0 c).before 0 t d = iblk m c 0 t :=
  ((dats m 0 c).before_in_eq_fetched 0 rfl (fun _ => rfl) (fun _ _ _ => rfl)
      (fun t => by rw [after_base]; unfold Dat.blockOf iblk; rw [A_eq]; try rfl) t d).trans
    (by unfold Dat.fetched Dat.blockOf iblk; rw [A_eq]; try rfl)

/-- The same for the row. -/
theorem before_row (c : Dev nD) (t : Fin cfg0.N) (d) : (dats m 0 c).before 1 t d = iblk m c 1 t :=
  ((dats m 0 c).before_in_eq_fetched 1 rfl (fun _ => rfl) (fun _ _ _ => rfl)
      (fun t => by rw [after_row]; unfold Dat.blockOf iblk; rw [A_eq]; try rfl) t d).trans
    (by unfold Dat.fetched Dat.blockOf iblk; rw [A_eq]; try rfl)

/-- The four turns and the drain. -/
theorem turns_spec (c : Dev nD) (t : Fin cfg0.N) (X : FVec F S512x1024 .f32) (hX : X = blocks m c (pt t)) (w₀ hw₀ w₁ hw₁ w₂ hw₂ w₃ hw₃ ho₀ ho₁ ho₂ ho₃)
    (Q : PUnit → sProp 𝕄) :
    iprop(Inv (blocks m c) c t.val ∗ ∃ W, owes (c : Thread nD τ) 0 W)
      ⊢ iprop(((∃ W, owes (c : Thread nD τ) 0 W) -∗ (if t.val + 1 = 16 then Final (blocks m c) c else Inv (blocks m c) c (t.val + 1)) -∗ Q ⟨⟩)
          -∗ wp frame (wpE (defs₀ (F := F)) Variants.none c none) Set.univ
            (turn 0 X (k0_cond1 (grid0.coords t)) (k0_cond2 (grid0.coords t)) w₀ hw₀ ![k0_off5 (grid0.coords t), k0_off6 (grid0.coords t), k0_off7 (grid0.coords t), k0_off8 (grid0.coords t)] ho₀ fun _ =>
             turn 1 X (k0_cond3 (grid0.coords t)) (k0_cond4 (grid0.coords t)) w₁ hw₁ ![k0_off13 (grid0.coords t), k0_off14 (grid0.coords t), k0_off15 (grid0.coords t), k0_off16 (grid0.coords t)] ho₁ fun _ =>
             turn 2 X (k0_cond5 (grid0.coords t)) (k0_cond6 (grid0.coords t)) w₂ hw₂ ![k0_off21 (grid0.coords t), k0_off22 (grid0.coords t), k0_off23 (grid0.coords t), k0_off24 (grid0.coords t)] ho₂ fun _ =>
             turn 3 X (k0_cond7 (grid0.coords t)) (k0_cond8 (grid0.coords t)) w₃ hw₃ ![k0_off29 (grid0.coords t), k0_off30 (grid0.coords t), k0_off31 (grid0.coords t), k0_off32 (grid0.coords t)] ho₃ fun _ =>
             drain (lastCond (grid0.coords t)) fun _ => .ret ⟨⟩) Q) := by
  rw [show Inv (blocks m c) c t.val = Mid (blocks m c) c (pt t) 0 from rfl]
  iintro ⟨HM, HW⟩ Hk
  iapply (turn_spec (blocks m c) c (pt t) 0 _ hX _ _ _ _ _ _ (cond_1 t) (cond_2 t) (fun _ b => offs_0 t b) _ _) $$ [HM HW]
  · isplitl [HM]; · iexact HM
    iexact HW
  iintro HW HM
  iapply (turn_spec (blocks m c) c (pt t) 1 _ hX _ _ _ _ _ _ (cond_3 t) (cond_4 t) (fun _ b => offs_1 t b) _ _) $$ [HM HW]
  · isplitl [HM]; · iexact HM
    iexact HW
  iintro HW HM
  iapply (turn_spec (blocks m c) c (pt t) 2 _ hX _ _ _ _ _ _ (cond_5 t) (cond_6 t) (fun _ b => offs_2 t b) _ _) $$ [HM HW]
  · isplitl [HM]; · iexact HM
    iexact HW
  iintro HW HM
  iapply (turn_spec (blocks m c) c (pt t) 3 _ hX _ _ _ _ _ _ (cond_7 t) (cond_8 t) (fun _ b => offs_3 t b) _ _) $$ [HM HW]
  · isplitl [HM]; · iexact HM
    iexact HW
  iintro HW HM
  ihave HM := (Entails.of_eq (show Mid (blocks m c) c (pt t) ((3 : Fin 4).val + 1) = Inv (blocks m c) c (t.val + 1) from if_pos (Nat.mod_lt _ (by decide)))) $$ HM
  by_cases h : t.val = 15
  · rw [if_pos (by omega), h]
    iapply (drain_spec (blocks m c) c _ ((cond_last t).mpr h) _ _) $$ [HM HW]
    · isplitl [HM]; · iexact HM
      iexact HW
    iintro HW HF
    rw [wp_ret]
    imodintro
    iapply Hk $$ HW HF
  · rw [if_neg (by omega)]
    unfold drain
    rw [dif_neg (fun e => h ((cond_last t).mp e))]
    rw [wp_ret]
    imodintro
    iapply Hk $$ HW HM

/-- The body's precondition at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- The body's postcondition at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- A load through a rectangle reads what the whole view reads, at the rectangle's places. -/
theorem read_rect {sp : Space} {s : Shape} {e : EltTy} (M : Memref sig .tc sp s e) (r : Rect s) (f : M.view.ty.Contents (Elt F)) {X : s.Idx → Elt F e}
    (h : M.view.read (Elt F) f = X) : (M.access r).read (Elt F) f = fun x => X (r.emb x) := by
  subst h; rfl

/-- The body takes a point's invariant to the next's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  unfold Dat.owesAt Pipeline.owesWithin
  rw [show (dats m 0 c).owed t.castSucc = 0 from rfl, show (dats m 0 c).owed t.succ = 0 from rfl, body_eq,
    show (dats m 0 c).Φ t.castSucc = PhiAt m c t.castSucc from rfl, show (dats m 0 c).Φ t.succ = PhiAt m c t.succ from rfl]
  unfold PhiAt
  have ht : t.val < 16 := t.isLt
  rw [if_neg (show ¬ t.castSucc.val = 16 from Nat.ne_of_lt ht), after_base, after_row]
  simp only [before_base, before_row]
  unfold owns
  iintro ⟨⟨HI, Hg⟩, ⟨%W, -, HW⟩, ⟨%d₀, %f₀, %e₀, H₀⟩, ⟨%d₁, %f₁, %e₁, H₁⟩⟩
  iapply (wp_load_rect (defs := defs₀ (F := F)) Variants.none (c : Thread nD τ) none Set.univ (m := st0_0 t)
    (r := Rect.unit (s := S512x1024) ![0, 0] S512x1024.size inb_S512x1024_S512x1024_0_0) (View.set_slice_subset _ _)) $$ H₀
  iintro H₀
  iapply (wp_load_rect (defs := defs₀ (F := F)) Variants.none (c : Thread nD τ) none Set.univ (m := st0_1 t)
    (r := Rect.unit (s := S1x8x1024) ![0, 0, 0] S1x1x1024.size inb_S1x8x1024_S1x1x1024_0_0_0) (View.set_slice_subset _ _)) $$ H₁
  iintro H₁
  iapply (turns_spec m c t _ ?_ _ _ _ _ _ _ _ _ _ _ _ _ _) $$ [HI HW]
  · rw [read_rect (st0_0 t) _ f₀ e₀, read_rect (st0_1 t) _ f₁ e₁]; rfl
  · isplitl [HI]; · iexact HI
    iexists _; iexact HW
  iintro ⟨%W', HW⟩ HI
  isplitl [HI Hg]
  · isplitl [HI]; · iexact HI
    iexact Hg
  isplitl [HW]
  · iexists W'; isplitr; · ipureintro; exact fun _ _ => Or.inl trivial
    iexact HW
  isplitl [H₀]
  · iexists f₀; isplitr; · ipureintro; exact e₀
    iexact H₀
  iexists f₁; isplitr; · ipureintro; exact e₁
  iexact H₁

/-- What runs at a point is the body on the point's staging buffers. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.Whole.lean ====
/-
  The buffers whole and cut up: the scratch as its four slots, the result as its 64 pieces, taken apart at the launch and put
  together again at the end.
-/
module

public import proofs.«01_k».proof.Proof.Inv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The assertions of this proof: the pipeline's, beside the counters of the body's own transfers. -/
local notation "𝕄" => MT nD τ sig Unit (Elt F) ℕ (Pipeline.UD sig nD τ) ℕ

/-- The entries a slot addresses. -/
theorem slotM_set (k : Fin 4) : (slotM k).view.set = (Rect.unit (s := S4x512x1024) (slotOff k) S1x512x1024.size (slot_inb k)).set := by
  show (View.reshape (((View.whole cc0_scratch0 : View sig _ _ _ _)).slice _) _ _).set = _
  rw [View.set_reshape, View.set_slice_whole]

/-- The entries a piece addresses. -/
theorem pieceM_set (b : Fin 4) (u : Fin 16) :
    (pieceM b u).view.set = (Rect.unit (s := S4x8192x1024) (pieceOff b u) S1x512x1024.size (piece_inb b u)).set := by
  show (View.reshape (((View.whole main_v1 : View sig _ _ _ _)).slice _) _ _).set = _
  rw [View.set_reshape, View.set_slice_whole]

/-- The entries of the ring in slot `k`. -/
def slotSet (k : Fin 4) : Finset S4x512x1024.Idx := (Rect.unit (s := S4x512x1024) (slotOff k) S1x512x1024.size (slot_inb k)).set

/-- The entries of the result in a piece. -/
def pieceSet (i : Fin 16 × Fin 4) : Finset S4x8192x1024.Idx :=
  (Rect.unit (s := S4x8192x1024) (pieceOff i.2 i.1) S1x512x1024.size (piece_inb i.2 i.1)).set

/-- The slots are disjoint, -/
theorem slots_disjoint (k k' : Fin 4) (h : k ≠ k') : Disjoint (slotSet k) (slotSet k') :=
  Ring.lead_disjoint (s := S4x512x1024) (a₀ := 0) (R := 1) (off := slotOff) (size := S1x512x1024.size) (inb := slot_inb)
    (hoff₀ := fun k => (Nat.one_mul _).symm) (hsz₀ := rfl) k k' h

/-- and they are the whole scratch. -/
theorem slots_cover : Finset.univ.biUnion slotSet = Finset.univ :=
  Ring.lead_cover (s := S4x512x1024) (a₀ := 0) (R := 1) (off := slotOff) (size := S1x512x1024.size) (inb := slot_inb)
    (hoff₀ := fun k => (Nat.one_mul _).symm) (hoff := by decide) (hsz₀ := rfl) (hsz := by decide) rfl

/-- The pieces are disjoint, -/
theorem pieces_disjoint (i j : Fin 16 × Fin 4) (h : i ≠ j) : Disjoint (pieceSet i) (pieceSet j) := by
  by_cases hb : i.2 = j.2
  · have hu : i.1.val ≠ j.1.val := fun e => h (Prod.ext (Fin.ext e) hb)
    refine Rect.unit_disjoint 1 ?_
    show 512 * i.1.val + 512 ≤ 512 * j.1.val ∨ 512 * j.1.val + 512 ≤ 512 * i.1.val
    omega
  · have hb' : i.2.val ≠ j.2.val := fun e => hb (Fin.ext e)
    refine Rect.unit_disjoint 0 ?_
    show i.2.val + 1 ≤ j.2.val ∨ j.2.val + 1 ≤ i.2.val
    omega

/-- and they are the whole result. -/
theorem pieces_cover : Finset.univ.biUnion pieceSet = Finset.univ := by
  refine Finset.eq_univ_iff_forall.mpr fun (j : S4x8192x1024.Idx) => ?_
  have h0 : (j 0).val < 4 := (j 0).isLt
  have h1 : (j 1).val < 8192 := (j 1).isLt
  have h2 : (j 2).val < 1024 := (j 2).isLt
  refine Finset.mem_biUnion.mpr ⟨(⟨(j 1).val / 512, by omega⟩, ⟨(j 0).val, h0⟩), Finset.mem_univ _, ?_⟩
  refine Rect.mem_set_unit.mpr fun a => ?_
  match a with
  | 0 => show (j 0).val ≤ (j 0).val ∧ (j 0).val < (j 0).val + 1; omega
  | 1 => show 512 * ((j 1).val / 512) ≤ (j 1).val ∧ (j 1).val < 512 * ((j 1).val / 512) + 512; omega
  | 2 => show 0 ≤ (j 2).val ∧ (j 2).val < 0 + 1024; omega

variable (c : Dev nD)

/-- A slot held at given contents, as a part of the ring. -/
theorem slotAt_eq (k : Fin 4) (f : cc0_scratch0.ty.Contents (Elt F)) :
    (slotAt c k fullShare f : sProp 𝕄) = (((c : Thread nD τ).loc cc0_scratch0) ↦[slotSet k]{fullShare} f) := by
  unfold slotAt; rw [slotM_set]; rfl

/-- A piece held at given contents, as a part of the result. -/
theorem pieceAt_eq (b : Fin 4) (u : Fin 16) (f : main_v1.ty.Contents (Elt F)) :
    (pieceAt c b u f : sProp 𝕄) = (((c : Thread nD τ).loc main_v1) ↦[pieceSet (u, b)]{fullShare} f) := by
  unfold pieceAt; rw [pieceM_set]; rfl

/-- The scratch, whole, is its four slots. -/
theorem slots_split (f : cc0_scratch0.ty.Contents (Elt F)) :
    (((c : Thread nD τ).loc cc0_scratch0) ↦{fullShare} f : sProp 𝕄) = bigSep Finset.univ fun k => slotAt c k fullShare f :=
  (Ring.pointsTo_blocks (ℓ := (c : Thread nD τ).loc cc0_scratch0) slotSet slots_disjoint slots_cover f).trans
    (bigSep_congr fun k _ => (slotAt_eq c k f).symm)

/-- Four slots at contents of their own are the scratch at some contents. -/
theorem slots_join :
    bigSep Finset.univ (fun k => iprop(∃ f, slotAt (F := F) c k fullShare f)) ⊢ (iprop(∃ f, ((c : Thread nD τ).loc cc0_scratch0) ↦{fullShare} f) : sProp 𝕄) := by
  simp only [slotAt_eq]
  exact Ring.pointsTo_blocks_join_exists (ℓ := (c : Thread nD τ).loc cc0_scratch0) slotSet slots_disjoint slots_cover (fun _ => default)

/-- The result, whole, is its pieces, block by block. -/
theorem pieces_split (f : main_v1.ty.Contents (Elt F)) :
    (((c : Thread nD τ).loc main_v1) ↦{fullShare} f : sProp 𝕄)
      = bigSep Finset.univ fun u : Fin 16 => bigSep Finset.univ fun b : Fin 4 => pieceAt c b u f := by
  simp only [pieceAt_eq]
  exact (Ring.pointsTo_blocks (ℓ := (c : Thread nD τ).loc main_v1) pieceSet pieces_disjoint pieces_cover f).trans (bigSep_univ_prod _)

/-- At the launch nothing is written and every slot is free. -/
theorem inv_start (B : Fin 16 → FVec F S512x1024 .f32) (f : main_v1.ty.Contents (Elt F)) (g : cc0_scratch0.ty.Contents (Elt F)) :
    iprop((((c : Thread nD τ).loc main_v1) ↦{fullShare} f) ∗ (((c : Thread nD τ).loc cc0_scratch0) ↦{fullShare} g)
        ∗ bigSep Finset.univ (fun k : Fin 4 => semVal ((c : Thread nD τ), SemLoc.dma (cellM k)) 0))
      ⊢ (Inv B c 0 : sProp 𝕄) := by
  have hfree : bigSep Finset.univ (slotAtPoint B c 0)
      = (iprop(bigSep Finset.univ (fun k => iprop(∃ f, slotAt (F := F) c k fullShare f))
          ∗ bigSep Finset.univ (fun k : Fin 4 => semVal ((c : Thread nD τ), SemLoc.dma (cellM k)) 0)) : sProp 𝕄) := by
    rw [← bigSep_sep']
    exact bigSep_congr fun k _ => by unfold slotAtPoint free; rw [if_neg (Nat.not_lt_zero _)]
  have hP : (((c : Thread nD τ).loc main_v1) ↦{fullShare} f : sProp 𝕄) ⊢ bigSep Finset.univ (ahead (F := F) c) := by
    rw [pieces_split]
    exact bigSep_mono fun u _ => bigSep_mono fun b _ =>
      (show pieceAt c b u f ⊢ (iprop(∃ f, pieceAt (F := F) c b u f) : sProp 𝕄) from by iintro H; iexists f; iexact H)
  have hS : (((c : Thread nD τ).loc cc0_scratch0) ↦{fullShare} g : sProp 𝕄)
      ⊢ bigSep Finset.univ fun k => iprop(∃ f, slotAt (F := F) c k fullShare f) := by
    rw [slots_split]
    exact bigSep_mono fun k _ =>
      (show slotAt c k fullShare g ⊢ (iprop(∃ f, slotAt (F := F) c k fullShare f) : sProp 𝕄) from by iintro H; iexists g; iexact H)
  unfold Inv
  rw [todo_zero, show 0 - 4 = 0 from rfl, done_zero, bigSep_empty, hfree]
  iintro ⟨HP, HS, Hc⟩
  isplitl [HP]; · iapply hP; iexact HP
  isplitr [HS Hc]; · iempintro
  isplitl [HS]; · iapply hS; iexact HS
  iexact Hc

/-- At the end the result is written, the scratch is whole, and the cells are at zero. -/
theorem final_end (B : Fin 16 → FVec F S512x1024 .f32) :
    (Final B c : sProp 𝕄) ⊢ iprop((((c : Thread nD τ).loc main_v1) ↦{fullShare} outVal B)
        ∗ (∃ g, ((c : Thread nD τ).loc cc0_scratch0) ↦{fullShare} g)
        ∗ bigSep Finset.univ (fun k : Fin 4 => semVal ((c : Thread nD τ), SemLoc.dma (cellM k)) 0)) := by
  unfold Final
  have hfree : bigSep Finset.univ (free (F := F) c)
      = (iprop(bigSep Finset.univ (fun k => iprop(∃ f, slotAt (F := F) c k fullShare f))
          ∗ bigSep Finset.univ (fun k : Fin 4 => semVal ((c : Thread nD τ), SemLoc.dma (cellM k)) 0)) : sProp 𝕄) := by
    rw [← bigSep_sep']
    rfl
  rw [hfree, pieces_split]
  iintro ⟨HP, HS, Hc⟩
  isplitl [HP]; · iexact HP
  isplitl [HS]; · iapply (slots_join c); iexact HS
  iexact Hc

end Cert.KernelIdeal.Hand

end
-- ==== Proof.Run.lean ====
/-
  The run of the kernel from a launch: the pipeline's launch around the body's invariant. It ends with the arguments as they
  were, every semaphore at zero, and the result block by block what the points computed.
-/
module

public import proofs.«01_k».proof.Proof.Step
public import proofs.«01_k».proof.Proof.Whole
public import Idealize.ShloMosaic.Lib.Pipeline.FrameValue

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The assertions of this proof: the pipeline's, beside the counters of the body's own transfers. -/
local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The host operation before the region, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own semaphores: one per slot. -/
abbrev cells : Fin 4 → SemLoc sig := fun k => SemLoc.dma (cellM k)

/-- The four semaphores are the kernel's own. -/
theorem cells_own : Pipeline.OwnSemFacts spec0 cells := by decide

/-- The result is the only buffer the body writes besides what it stages. -/
def outs : Finset (Ref sig .tc) := {main_v1}

/-- The result is none of the arrays the windows stage. -/
theorem outs_sub : outs ⊆ Pipeline.restRefs sig spec0 \ ∅ := by decide

/-- The contents at the end of the buffers the body writes. -/
def final (c : Dev nD) (b : Ref sig .tc) : Buf (Elt F) ((c.tc : Thread nD τ).loc b) :=
  if h : b = main_v1 then h ▸ outVal (blocks m c) else V m c b

/-- The result ends as the computed blocks. -/
theorem final_out (c : Dev nD) : final m c main_v1 = outVal (blocks m c) := by
  unfold final; rw [dif_pos rfl]

/-- The launch gives the invariant at the first point. -/
theorem launch_in (c : Dev nD) : Pipeline.ΦDRG cells spec0 ∅ outs (V m) (V m) c ⊢ ((dats m 0 c).Φ 0 : sProp 𝕄) := by
  rw [show (dats m 0 c).Φ 0 = PhiAt m c 0 from rfl, Pipeline.ΦDRG_eq, scopedRest0_eq, bigSep_empty]
  unfold PhiAt outs Pipeline.ownSems0
  rw [Pipeline.routed_singleton, if_neg (show ¬ (0 : Fin (cfg0.N + 1)).val = 16 by decide)]
  iintro ⟨⟨%g, HS⟩, Hr, Hc, -, HP⟩
  isplitr [Hr]
  · iapply (inv_start c (blocks m c) (V m c main_v1) g)
    isplitl [HP]; · iexact HP
    isplitl [HS]; · iexact HS
    iexact Hc
  · iexact Hr

/-- What holds after the last point gives the launch its buffers back. -/
theorem launch_out (c : Dev nD) : ((dats m 0 c).Φ (Fin.last cfg0.N) : sProp 𝕄) ⊢ Pipeline.ΦDRG cells spec0 ∅ outs (V m) (final m) c := by
  rw [show (dats m 0 c).Φ (Fin.last cfg0.N) = PhiAt m c (Fin.last cfg0.N) from rfl, Pipeline.ΦDRG_eq, scopedRest0_eq, bigSep_empty]
  unfold PhiAt outs Pipeline.ownSems0
  rw [Pipeline.routed_singleton, if_pos (show (Fin.last cfg0.N).val = 16 by decide), final_out]
  iintro ⟨HF, Hr⟩
  ihave H := (final_end c (blocks m c)) $$ HF
  icases H with ⟨HP, HS, Hc⟩
  isplitl [HS]; · iexact HS
  isplitl [Hr]; · iexact Hr
  isplitl [Hc]; · iexact Hc
  isplitr [HP]; · iempintro
  iexact HP

set_option backward.isDefEq.respectTransparency.types false in
/-- The run, to the pipeline's postcondition. -/
theorem run_main : θ_run defs (onTc (τ := τ) (main (F := F))) (s₀ m ρ)
    (fun r => Pipeline.FramePostRG cfgs (dats m) 0 outs (V m) (final m) r ∧ r.2.sem = fun _ => 0) :=
  Pipeline.θ_run_frame_dmaRG (Q' := _) cfgs (dats m) (0 : Fin 1) launch0 cells defs₀ Variants.none cells_own ∅ outs (by decide) outs_sub m ρ main
    (hbody := fun c => (body_obligation m c).loose) (hshare := fun c => (dats m 0 c).share_full fun _ => rfl) (howed := fun _ _ => rfl)
    (V := V m) (hmain := hmain m Variants.none) (hA := A_eq m) (G := final m) (hin := launch_in m) (hout := launch_out m)

/-- The run: the arguments end as they were, the result holds the computed blocks, and the semaphores are at zero. -/
theorem run : θ_run defs (onTc (τ := τ) (main (F := F))) ⟨m, fun _ => 0, ρ⟩ (fun r => (∀ c : Dev nD,
      r.2.mem ((c.tc : Thread nD τ).loc main_v1) = outVal (blocks m c)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c =>
    ⟨(h.1.written c (b := main_v1) (by decide)).trans (final_out m c),
      ((h.1.1 c).2 main_arg0 (Finset.mem_sdiff.mpr ⟨Pipeline.mem_restRefs_of main_arg0 (by decide) (by decide), by decide⟩)).trans (V_main_arg0 m c),
      ((h.1.1 c).1 0).trans (((dats m 0 c).arrAt_in 0 rfl _).trans ((A_eq m c 0).trans (V_main_arg1 m c)))⟩, h.2⟩) (run_main m ρ)

end Cert.KernelIdeal.Hand

end
-- ==== Proof.Reference.lean ====
/-
  The reference: its run leaves every semaphore at zero (it has none), and its result, `jnp.take` of the table at the row
  numbers, is the table itself in every batch entry.
-/
module

public import proofs.«01_k».proof.Proof.Gen.ReferenceIdeal.Run
public import Idealize.ShloMosaic.Lib.Quiescent
public import Idealize.ShloMosaic.Lib.ReduceAll
public import Idealize.ShloMosaic.Lib.ValueIdxCore
public import Idealize.ShloMosaic.Lib.StableHlo.Predicate

@[expose] public section

noncomputable section

namespace Cert.ReferenceIdeal.Hand

open Cert.ReferenceIdeal Cert.ReferenceIdeal.Gen
open Idealize.ShloMosaic Idealize.ShloMosaic.TcCoe Idealize.SL.Sem
open Idealize.ShloMosaic.ValueIdx

variable {F : FTy → Type} [FloatOps F]

/-- The positions: each batch entry's row numbers. -/
def positions : IVec S4x8192 32 :=
  broadcastInDim S4x8192 ![0, 1] bcast_S1x8192_S4x8192_0_1 (broadcastInDim S1x8192 ![1] bcast_S8192_S1x8192_1 (iotaInDim S8192 32 0))

/-- A position is its row number. -/
theorem positions_apply (j : S4x8192.Idx) : positions j = BitVec.ofNat 32 (j 1).val := rfl

/-- The positions with the negative ones wrapped round, which changes none of them. -/
def wrapped : IVec S4x8192 32 :=
  select (cmpi .slt positions (broadcastInDim S4x8192 ![] bcast_S_S4x8192 (constantI S_ 32 0#32)))
    (addi positions (broadcastInDim S4x8192 ![] bcast_S_S4x8192 (constantI S_ 32 8192#32))) positions

/-- A wrapped position is its row number. -/
theorem wrapped_apply (j : S4x8192.Idx) : wrapped j = BitVec.ofNat 32 (j 1).val := by
  have h : (j 1).val < 8192 := (j 1).isLt
  have hlt : ¬ IntOp.cmpi .slt (BitVec.ofNat 32 (j 1).val) 0#32 = 1#1 := by
    rw [StableHlo.Predicate.slt_iff_toNat (by rw [BitVec.toNat_ofNat]; omega) (by decide)]
    exact Nat.not_lt_zero _
  show (if IntOp.cmpi .slt (BitVec.ofNat 32 (j 1).val) 0#32 = 1#1 then _ else BitVec.ofNat 32 (j 1).val) = _
  rw [if_neg hlt]

/-- The wrapped positions as the index array of the gather. -/
def starts : IVec S4x8192x1 32 := broadcastInDim S4x8192x1 ![0, 1] bcast_S4x8192_S4x8192x1_0_1 wrapped

/-- A start index is its row number. -/
theorem starts_apply (j : S4x8192x1.Idx) : starts j = BitVec.ofNat 32 (j 1).val :=
  wrapped_apply (fun a => match a with | 0 => j 0 | 1 => j 1)

/-- The gather takes row `s` of the table for position `s`. -/
theorem gather_apply {α : Type} (x : S8192x1024.Idx → α) (b : Fin 4) (s : Fin 8192) (l : Fin 1024) :
    Host.gather gather_S8192x1024_S4x8192x1_S4x8192x1024_2_0_n_n_0_2_11024 x starts (ix3 b s l) = x (ix2 s l) := by
  have hs := s.isLt
  unfold Host.gather
  refine congrArg x (funext fun a => Fin.ext ?_)
  match a with
  | ⟨0, _⟩ =>
    show GatherDims.start _ (ix3 b s l) starts 0 + GatherDims.batchCoord _ (ix3 b s l) 0 + GatherDims.offCoord _ (ix3 b s l) 0 = s.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S4x8192x1_S4x8192x1024_2_0_n_n_0_2_11024.startIndexMap from List.mem_singleton.mpr rfl),
      starts_apply]
    show min (BitVec.ofNat 32 s.val).toInt.toNat (8192 - 1) = s.val
    rw [StableHlo.Predicate.toInt_ofNat_small _ (by omega)]
    omega
  | ⟨1, _⟩ =>
    show GatherDims.start _ (ix3 b s l) starts 1 + GatherDims.batchCoord _ (ix3 b s l) 1 + GatherDims.offCoord _ (ix3 b s l) 1 = l.val
    rw [GatherDims.batchCoord_eq_zero _ _ _ List.not_mem_nil]
    unfold GatherDims.start
    rw [dif_neg (show ¬ (1 : Fin 2) ∈ gather_S8192x1024_S4x8192x1_S4x8192x1024_2_0_n_n_0_2_11024.startIndexMap by decide)]
    rw [Nat.zero_add]
    rfl

/-- Which positions are in the table. -/
def inTable : IVec S4x8192 1 :=
  Host.reduce IntOp.andi (andi (cmpi .sge starts (broadcastInDim S4x8192x1 ![] bcast_S_S4x8192x1 (constantI S_ 32 0#32)))
    (cmpi .sle starts (broadcastInDim S4x8192x1 ![0, 1, 2] bcast_S1x1x1_S4x8192x1_0_1_2 (broadcastInDim S1x1x1 ![2] bcast_S1_S1x1x1_2 (constantI S1 32 8191#32)))))
    (constantI S_ 1 1#1) reducesTo_S4x8192x1_S4x8192_d2 h_S_

/-- Every one is, so the take keeps every row it gathered. -/
theorem inTable_apply (j : S4x8192.Idx) : inTable j = 1#1 := by
  unfold inTable
  refine Host.reduce_andi_one _ _ _ _ _ rfl fun i => ?_
  have h : (i 1).val < 8192 := (i 1).isLt
  show IntOp.andi (IntOp.cmpi .sge (starts i) 0#32) (IntOp.cmpi .sle (starts i) 8191#32) = 1#1
  rw [starts_apply, (StableHlo.Predicate.sge_iff_toNat (by rw [BitVec.toNat_ofNat]; omega) (by decide)).mpr (Nat.zero_le _),
    (StableHlo.Predicate.sle_iff_toNat (by rw [BitVec.toNat_ofNat]; omega) (by decide)).mpr
      (by rw [BitVec.toNat_ofNat]; show _ ≤ 8191; omega)]
  rfl

/-- The table in every batch entry. -/
def taken {α : Type} (x : S8192x1024.Idx → α) : S4x8192x1024.Idx → α := fun j => x (ix2 (j 1) (j 2))

/-- The take of the table at the positions is the table in every batch entry. -/
theorem take_eq (x : S8192x1024.Idx → F .f32) :
    select (broadcastInDim S4x8192x1024 ![0, 1] bcast_S4x8192_S4x8192x1024_0_1 inTable)
      (Host.gather gather_S8192x1024_S4x8192x1_S4x8192x1024_2_0_n_n_0_2_11024 x starts)
      (broadcastInDim S4x8192x1024 ![] bcast_S_S4x8192x1024 (constant S_ .f32 0x7FC00000#32)) = taken x := by
  funext j
  obtain ⟨b, s, l, rfl⟩ : ∃ (b : Fin 4) (s : Fin 8192) (l : Fin 1024), j = ix3 b s l := ⟨j 0, j 1, j 2, eq_ix3 j⟩
  have hm : broadcastInDim S4x8192x1024 ![0, 1] bcast_S4x8192_S4x8192x1024_0_1 inTable (ix3 b s l) = 1#1 := inTable_apply _
  unfold select
  rw [hm, gather_apply]
  rfl

/-- The run: the result is the table in every batch entry, and the arguments end as they were. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v3) = taken (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans (take_eq _), (h c).2⟩, sem_eq_zero_of_no_sems (by decide) r.2⟩)
    (Value.run m ρ)

end Cert.ReferenceIdeal.Hand

end
-- ==== Proof.Frames.lean ====
/-
  The frames: each program terminates, leaves its arguments as they were and every semaphore at zero.
-/
module

public import proofs.«01_k».proof.Proof.Gen.Kernel
public import proofs.«01_k».proof.Proof.Gen.Pre_is_sinusoid_table
public import proofs.«01_k».proof.Proof.Same
public import proofs.«01_k».proof.Proof.Run
public import proofs.«01_k».proof.Proof.Reference

@[expose] public section

noncomputable section

namespace Cert.Frames

open Idealize.ShloMosaic Idealize.SL.Sem
open Cert.Kernel.Gen Cert.KernelIdeal.Gen Cert.ReferenceIdeal.Gen Cert.Pre_is_sinusoid_table.Gen

/-- The kernel on machine floats. -/
theorem kernel : Cert.quiescent_Kernel := fun m g _ => by
  rw [Cert.Same.defs, show Cert.Kernel.main (F := Bits) = Cert.KernelIdeal.main (F := Bits) from funext Cert.Same.main]
  exact (θ_run (Cert.KernelIdeal.defs (F := Bits)) _ _).mono (fun r h => ⟨fun c => (h.1 c).2, h.2⟩) (Cert.KernelIdeal.Hand.run (F := Bits) m g)

/-- The kernel over the extended reals. -/
theorem kernelIdeal : Cert.quiescent_KernelIdeal := fun m g _ =>
  (θ_run Cert.KernelIdeal.defs _ _).mono (fun r h => ⟨fun c => (h.1 c).2, h.2⟩) (Cert.KernelIdeal.Hand.run (F := Ideal) m g)

/-- The same under the precondition, which the frame does not need. -/
theorem kernelIdeal_pre : Cert.quiescent_KernelIdeal_pre_is_sinusoid_table := fun m g _ => kernelIdeal m g trivial

/-- The reference over the extended reals. -/
theorem referenceIdeal : Cert.quiescent_ReferenceIdeal := fun m g _ =>
  (θ_run Cert.ReferenceIdeal.defs _ _).mono (fun r h => ⟨fun c => (h.1 c).2, h.2⟩) (Cert.ReferenceIdeal.Hand.run (F := Ideal) m g)

/-- The same under the precondition. -/
theorem referenceIdeal_pre : Cert.quiescent_ReferenceIdeal_pre_is_sinusoid_table := fun m g _ => referenceIdeal m g trivial

end Cert.Frames

end
-- ==== Proof.Table.lean ====
/-
  What the precondition says of the table over the extended reals: the entry at row `s` and column `l` is the sine (at an
  even column) or the cosine (at an odd one) of `s` times the column's frequency, and a column shares its frequency with the
  one it is paired with.
-/
module

public import proofs.«01_k».proof.Proof.Gen.Pre_is_sinusoid_table
public import Idealize.ShloMosaic.Lib.ValueIdxCore
public import Idealize.ShloMosaic.Lib.IdealHost
public import Idealize.ShloMosaic.Lib.StableHlo.Predicate

@[expose] public section

noncomputable section

namespace Cert.Table

open Cert.Pre_is_sinusoid_table Cert.Pre_is_sinusoid_table.Gen
open Idealize.ShloMosaic
open Idealize.ShloMosaic.ValueIdx

/-- The exponent's factor, the real number the table's constant denotes. -/
def scale : ℝ := (Ideal.ofBits .f32 0xBC135D8E#32).toReal

/-- The constant is a real number. -/
theorem scale_coe : Ideal.ofBits .f32 0xBC135D8E#32 = ((scale : ℝ) : EReal) := by
  have h : ∃ r : ℝ, Ideal.ofBits .f32 0xBC135D8E#32 = (r : EReal) := by
    unfold Ideal.ofBits Ideal.ieee
    dsimp only
    rw [if_neg (by decide), if_neg (by decide)]
    exact ⟨_, rfl⟩
  obtain ⟨r, hr⟩ := h
  unfold scale
  rw [hr, EReal.toReal_coe]

/-- The frequency of a column: that of the even column of its pair. -/
def freq (l : ℕ) : ℝ := Real.exp (((l - l % 2 : ℕ) : ℝ) * scale)

/-- The even column of a pair and the odd one after it have one frequency. -/
theorem freq_succ (l : ℕ) (h : l % 2 = 0) : freq (l + 1) = freq l := by
  unfold freq
  rw [show l + 1 - (l + 1) % 2 = l - l % 2 by omega]

/-- The sinusoid at a row and a column. -/
def wave (s l : ℕ) : ℝ := if l % 2 = 0 then Real.sin (s * freq l) else Real.cos (s * freq l)

/-- A word's remainder by two, as the table's text spells it. -/
def rem2 (x : BitVec 32) : BitVec 32 :=
  let r := IntOp.remsi .host x 2#32
  Scalar.select (IntOp.andi (IntOp.cmpi .ne (IntOp.cmpi .slt r 0#32) (IntOp.cmpi .slt 2#32 0#32)) (IntOp.cmpi .ne r 0#32)) (IntOp.addi r 2#32) r

/-- It is a column number's remainder by two. -/
theorem rem2_ofNat (l : Fin 1024) : rem2 (BitVec.ofNat 32 l.val) = BitVec.ofNat 32 (l.val % 2) := by
  revert l
  decide +kernel

/-- The table's remainder array. -/
theorem remainder_apply (j : S8192x1024.Idx) :
    fn_remainder (F := Ideal) (iotaInDim S8192x1024 32 1) (constantI S_ 32 2#32) j = BitVec.ofNat 32 ((j 1).val % 2) :=
  Eq.trans rfl (rem2_ofNat (j 1))

/-- A small number converted to a float is that number. -/
theorem sitofp_ofNat (n : ℕ) (h : n < 2 ^ 31) : Scalar.sitofp (F := Ideal) .f32 (BitVec.ofNat 32 n) = (((n : ℕ) : ℝ) : EReal) := by
  rw [Ideal.scalar_sitofp_def, StableHlo.Predicate.toInt_ofNat_small _ h, Int.cast_natCast]

/-- The phase of an entry: its row times its column's frequency. -/
theorem phase_eq (s l : ℕ) (hs : s < 8192) (hl : l < 1024) :
    Scalar.sitofp (F := Ideal) .f32 (BitVec.ofNat 32 s)
        * Ideal.exp (Scalar.sitofp (F := Ideal) .f32 (IntOp.subi (BitVec.ofNat 32 l) (BitVec.ofNat 32 (l % 2))) * Ideal.ofBits .f32 0xBC135D8E#32)
      = ((s * freq l : ℝ) : EReal) := by
  have hsub : IntOp.subi (BitVec.ofNat 32 l) (BitVec.ofNat 32 (l % 2)) = BitVec.ofNat 32 (l - l % 2) := by
    unfold IntOp.subi
    apply BitVec.eq_of_toNat_eq
    rw [BitVec.toNat_sub, BitVec.toNat_ofNat, BitVec.toNat_ofNat, BitVec.toNat_ofNat]
    omega
  rw [hsub, sitofp_ofNat s (by omega), sitofp_ofNat (l - l % 2) (by omega), scale_coe, ← EReal.coe_mul, Ideal.exp_coe, ← EReal.coe_mul]
  rfl

/-- Two extended reals that compare equal are equal. -/
theorem eq_of_oeq {a b : EReal} (h : Ideal.cmp .oeq a b = 1#1) : a = b := by
  by_contra hne
  simp [Ideal.cmp, hne] at h

/-- Under the precondition the table is the sinusoids. -/
theorem entry_eq (x : IVec S4x8192 32) (pe : FVec Ideal S8192x1024 .f32) (h : fn (F := Ideal) x pe = fun _ => 1#1)
    (s : Fin 8192) (l : Fin 1024) : pe (ix2 s l) = ((wave s l : ℝ) : EReal) := by
  have h1 := congrFun h (ix2 s l)
  have h2 : Ideal.cmp .oeq (pe (ix2 s l))
      (Scalar.select (IntOp.cmpi .eq (fn_remainder (F := Ideal) (iotaInDim S8192x1024 32 1) (constantI S_ 32 2#32) (ix2 s l)) 0#32)
        (Ideal.sin (Scalar.sitofp (F := Ideal) .f32 (BitVec.ofNat 32 s)
          * Ideal.exp (Scalar.sitofp (F := Ideal) .f32 (IntOp.subi (BitVec.ofNat 32 l)
              (fn_remainder (F := Ideal) (iotaInDim S8192x1024 32 1) (constantI S_ 32 2#32) (ix2 s l))) * Ideal.ofBits .f32 0xBC135D8E#32)))
        (Ideal.cos (Scalar.sitofp (F := Ideal) .f32 (BitVec.ofNat 32 s)
          * Ideal.exp (Scalar.sitofp (F := Ideal) .f32 (IntOp.subi (BitVec.ofNat 32 l)
              (fn_remainder (F := Ideal) (iotaInDim S8192x1024 32 1) (constantI S_ 32 2#32) (ix2 s l))) * Ideal.ofBits .f32 0xBC135D8E#32)))) = 1#1 := h1
  rw [remainder_apply, show (ix2 s l 1 : Fin 1024) = l from rfl, phase_eq s l s.isLt l.isLt, Ideal.sin_coe, Ideal.cos_coe] at h2
  rw [eq_of_oeq h2]
  unfold wave Scalar.select
  rcases Nat.mod_two_eq_zero_or_one l.val with hl | hl <;> rw [hl] <;> rfl

end Cert.Table
-- ==== Proof.Payload.lean ====
/-
  The block the body computes, read at an entry: the base block and the row enter it at the entry's own column and at the
  column it is paired with.
-/
module

public import proofs.«01_k».proof.Proof.Gen.KernelIdeal.Skeleton
public import Idealize.ShloMosaic.Lib.ValueIdxCore
public import Idealize.ShloMosaic.Lib.Pipeline.Value

@[expose] public section

noncomputable section

namespace Cert.KernelIdeal.Hand

open Cert.KernelIdeal Cert.KernelIdeal.Gen
open Idealize.ShloMosaic
open Idealize.ShloMosaic.ValueIdx

section Rotate

variable {α : Type} {n : ℕ} (v : (⟨2, ![n, 1024]⟩ : Shape).Idx → α) (r : Fin n) (l k : Fin 1024)

/-- The columns moved one to the left: all but the last column read the one after it. -/
theorem left_apply (h₁ : (⟨2, ![n, 1024]⟩ : Shape).Slices ![0, 1] ⟨2, ![n, 1023]⟩) (h₂ : (⟨2, ![n, 1024]⟩ : Shape).Slices ![0, 0] ⟨2, ![n, 1]⟩)
    (h : Shape.Concatenates [⟨2, ![n, 1023]⟩, ⟨2, ![n, 1]⟩] ⟨2, ![n, 1024]⟩ 1) (hk : k.val = l.val + 1) :
    concatenate ⟨2, ![n, 1024]⟩ 1 [⟨⟨2, ![n, 1023]⟩, extractStridedSlice _ ![0, 1] v h₁⟩, ⟨⟨2, ![n, 1]⟩, extractStridedSlice _ ![0, 0] v h₂⟩] h (ix2 r l)
      = v (ix2 r k) := by
  have hl : l.val < 1023 := by have := k.isLt; omega
  refine (concatenate_pair_apply_left (t := ⟨2, ![n, 1024]⟩) 1 _ _ h (ix2 r l) rfl (ix2 r (⟨l.val, hl⟩ : Fin 1023)) fun b => ?_).trans ?_
  · match b with | ⟨0, _⟩ => rfl | ⟨1, _⟩ => rfl
  · refine extractStridedSlice_apply _ _ _ _ _ fun b => ?_
    match b with
    | ⟨0, _⟩ => exact (Nat.zero_add _).symm
    | ⟨1, _⟩ => exact hk.trans (Nat.add_comm _ _)

/-- The columns moved one to the right: all but the first column read the one before it. -/
theorem right_apply (h₁ : (⟨2, ![n, 1024]⟩ : Shape).Slices ![0, 1023] ⟨2, ![n, 1]⟩) (h₂ : (⟨2, ![n, 1024]⟩ : Shape).Slices ![0, 0] ⟨2, ![n, 1023]⟩)
    (h : Shape.Concatenates [⟨2, ![n, 1]⟩, ⟨2, ![n, 1023]⟩] ⟨2, ![n, 1024]⟩ 1) (hk : k.val + 1 = l.val) :
    concatenate ⟨2, ![n, 1024]⟩ 1 [⟨⟨2, ![n, 1]⟩, extractStridedSlice _ ![0, 1023] v h₁⟩, ⟨⟨2, ![n, 1023]⟩, extractStridedSlice _ ![0, 0] v h₂⟩] h (ix2 r l)
      = v (ix2 r k) := by
  have hk' : k.val < 1023 := by have := l.isLt; omega
  refine (concatenate_pair_apply_right (t := ⟨2, ![n, 1024]⟩) 1 _ _ h (ix2 r l) rfl rfl (ix2 r (⟨k.val, hk'⟩ : Fin 1023)) (fun b hb => ?_) hk).trans ?_
  · match b with | ⟨0, _⟩ => rfl | ⟨1, _⟩ => exact absurd rfl hb
  · refine extractStridedSlice_apply _ _ _ _ _ fun b => ?_
    match b with
    | ⟨0, _⟩ => exact (Nat.zero_add _).symm
    | ⟨1, _⟩ => exact (Nat.zero_add _).symm

end Rotate

/-- One row broadcast down the rows of a block. -/
theorem down_apply {α : Type} (w : S1x1024.Idx → α) (q : Fin 512) (l : Fin 1024) : broadcastTo S512x1024 w broadcasts_S1x1024_S512x1024 (ix2 q l) = w (ix2 0 l) :=
  broadcastTo_apply _ _ _ _ fun a => match a with | ⟨0, _⟩ => rfl | ⟨1, _⟩ => rfl

/-- Whether a word is even, as the body's text spells it. -/
def even (x : BitVec 32) : BitVec 1 :=
  let c := Scalar.select (Scalar.cmpi .eq 2#32 0#32) 1#32 2#32
  let r := IntOp.remsi .vector x c
  IntOp.cmpi .eq (Scalar.select (IntOp.andi (IntOp.xori (IntOp.cmpi .slt r 0#32) (Scalar.cmpi .slt c 0#32)) (IntOp.cmpi .ne r 0#32)) (IntOp.addi r c) r) 0#32

/-- It is the parity of a column number. -/
theorem even_ofNat (l : Fin 1024) : even (BitVec.ofNat 32 l.val) = if l.val % 2 = 0 then 1#1 else 0#1 := by
  revert l
  decide +kernel

/-- The mask of the even columns. -/
theorem mask_apply (l : Fin 1024) : k0_pay7 (ix2 (0 : Fin 1) l) = if l.val % 2 = 0 then 1#1 else 0#1 := by
  rw [← even_ofNat]
  unfold k0_pay7 even
  dsimp only
  rw [← iota_single_apply .tc S1x1024 32 1 iota_S1x1024_d1_w32 (ix2 (0 : Fin 1) l)]
  rfl

/-- The mask is on at an even column, -/
theorem mask_even (l : Fin 1024) (h : l.val % 2 = 0) : k0_pay7 (ix2 (0 : Fin 1) l) = 1#1 := (mask_apply l).trans (if_pos h)
/-- and off at an odd one. -/
theorem mask_odd (l : Fin 1024) (h : ¬ l.val % 2 = 0) : k0_pay7 (ix2 (0 : Fin 1) l) = 0#1 := (mask_apply l).trans (if_neg h)

variable {F : FTy → Type} [FloatOps F]

/-- The row the body works with is the loaded one. -/
theorem row_apply (w : FVec F S1x1x1024 .f32) (l : Fin 1024) : k0_pay6 w (ix2 (0 : Fin 1) l) = w (ix3 (0 : Fin 1) (0 : Fin 1) l) := by
  unfold k0_pay6
  refine shapeCast_apply _ _ _ _ ?_
  rw [Shape.rowMajor_val_three, Shape.rowMajor_val_two]
  rfl

variable (b : FVec F S512x1024 .f32) (w : FVec F S1x1x1024 .f32) (r : Fin 512) (l k : Fin 1024)

/-- A selection where its mask is on, -/
theorem select_on {α : Type} {s : Shape} {c : IVec s 1} {x y : s.Idx → α} {i : s.Idx} (h : c i = 1#1) : select c x y i = x i := by
  unfold select Scalar.select
  rw [h]
  rfl

/-- and where its mask is off. -/
theorem select_off {α : Type} {s : Shape} {c : IVec s 1} {x y : s.Idx → α} {i : s.Idx} (h : c i = 0#1) : select c x y i = y i := by
  unfold select Scalar.select
  rw [h]
  rfl

/-- The mask, broadcast down a block. -/
theorem masks_apply : broadcastTo S512x1024 (shapeCast S1x1024 k0_pay7 shapeCasts_S1x1024_S1x1024) broadcasts_S1x1024_S512x1024 (ix2 r l)
    = k0_pay7 (ix2 (0 : Fin 1) l) :=
  (down_apply _ r l).trans (shapeCast_apply _ _ _ _ rfl)

/-- The first product at an even column `l`, whose pair is the column `k` after it. -/
theorem cosines_even (h : l.val % 2 = 0) (hk : k.val = l.val + 1) :
    k0_pay8 b w (ix2 r l) = FloatOps.mulf (b (ix2 r l)) (w (ix3 (0 : Fin 1) (0 : Fin 1) k)) :=
  congrArg (FloatOps.mulf (b (ix2 r l))) <| (down_apply _ r l).trans <| (select_on (mask_even l h)).trans <|
    (left_apply _ _ _ _ _ _ _ hk).trans (row_apply w k)

/-- The first product at an odd column. -/
theorem cosines_odd (h : ¬ l.val % 2 = 0) :
    k0_pay8 b w (ix2 r l) = FloatOps.mulf (b (ix2 r l)) (w (ix3 (0 : Fin 1) (0 : Fin 1) l)) :=
  congrArg (FloatOps.mulf (b (ix2 r l))) <| (down_apply _ r l).trans <| (select_off (mask_odd l h)).trans (row_apply w l)

/-- The second product at an even column `l`, whose pair is the column `k` after it. -/
theorem sines_even (h : l.val % 2 = 0) (hk : k.val = l.val + 1) :
    k0_pay9 b w (ix2 r l) = FloatOps.mulf (b (ix2 r k)) (w (ix3 (0 : Fin 1) (0 : Fin 1) l)) :=
  congrArg₂ FloatOps.mulf ((select_on ((masks_apply r l).trans (mask_even l h))).trans (left_apply _ _ _ _ _ _ _ hk)) <|
    (down_apply _ r l).trans <| (select_on (mask_even l h)).trans <| (select_on (mask_even l h)).trans (row_apply w l)

/-- The second product at an odd column `l`, whose pair is the column `k` before it: the row enters it negated. -/
theorem sines_odd (h : ¬ l.val % 2 = 0) (hk : k.val + 1 = l.val) :
    k0_pay9 b w (ix2 r l)
      = FloatOps.mulf (b (ix2 r k)) (FloatOps.subf (Scalar.ofBits .f32 0x00000000#32) (w (ix3 (0 : Fin 1) (0 : Fin 1) k))) :=
  congrArg₂ FloatOps.mulf ((select_off ((masks_apply r l).trans (mask_odd l h))).trans (right_apply _ _ _ _ _ _ _ hk)) <|
    (down_apply _ r l).trans <| (select_off (mask_odd l h)).trans <|
      congrArg (FloatOps.subf (Scalar.ofBits .f32 0x00000000#32)) <| (select_off (mask_odd l h)).trans <|
        (right_apply _ _ _ _ _ _ _ hk).trans (row_apply w k)

end Cert.KernelIdeal.Hand
-- ==== Proof.Value.lean ====
/-
  The value, over the extended reals: the block a point computes is the table's own rows. The base block is the table's first
  512 rows and point `u`'s row is the table's row `512 * u`; under the precondition the two are sinusoids, and the angles add.
-/
module

public import proofs.«01_k».proof.Proof.Step
public import proofs.«01_k».proof.Proof.Table
public import proofs.«01_k».proof.Proof.Payload
public import Idealize.ShloMosaic.Lib.Claim

@[expose] public section

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx
open Cert.Table (wave freq freq_succ)

section Reads

variable {F : FTy → Type} [FloatOps F]
variable (m : (ℓ : Loc nD τ sig) → Buf (Elt F) ℓ) (c : Dev nD)

/-- The table, as the launch finds it. -/
def table : FVec F S8192x1024 .f32 := m ((c : Thread nD τ).loc main_arg1)

/-- Where the two windows' blocks start. -/
theorem index_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- The base block is the table's first rows, at every point. -/
theorem base_apply (t : Fin cfg0.N) (r : Fin 512) (l : Fin 1024) (s : Fin 8192) (hs : s.val = r.val) :
    baseAt m c t (ix2 r l) = table m c (ix2 s l) := by
  obtain ⟨e0, e1, -⟩ := index_facts t
  show V m c main_arg1 (((cfg0.win 0).blk t).view.emb _) = _
  rw [V_main_arg1]
  refine congrArg (table m c) (funext fun a => Fin.ext ?_)
  match a with
  | ⟨0, _⟩ => show win0_0.index t (0 : Fin 2) * 512 + 1 * (0 + 1 * r.val) = s.val; omega
  | ⟨1, _⟩ => show win0_0.index t (1 : Fin 2) * 1024 + 1 * (0 + 1 * l.val) = l.val; omega

/-- The row of a point is the table's row at the start of the point's block. -/
theorem start_apply (t : Fin cfg0.N) (l : Fin 1024) (s : Fin 8192) (hs : s.val = 512 * t.val) :
    rowAt m c t (ix3 (0 : Fin 1) (0 : Fin 1) l) = table m c (ix2 s l) := by
  obtain ⟨-, -, e0, e1, e2⟩ := index_facts t
  show V m c main_v0 (((cfg0.win 1).blk t).view.emb _) = _
  entry_read
  refine shapeCast_apply _ _ _ _ ?_
  show (S8192x1024.rowMajor (ix2 s l)).val = (S16x512x1024.rowMajor _).val
  rw [Shape.rowMajor_val_three, Shape.rowMajor_val_two]
  show s.val * 1024 + l.val = ((win0_1.index t (0 : Fin 3) * 1 + 1 * (0 + 1 * 0)) * 512 + (win0_1.index t (1 : Fin 3) * 8 + 1 * (0 + 1 * 0))) * 1024
      + (win0_1.index t (2 : Fin 3) * 1024 + 1 * (0 + 1 * l.val))
  omega

end Reads

variable (m : (ℓ : Loc nD τ sig) → Buf (Elt Ideal) ℓ) (c : Dev nD)

/-- The sine of a sum, at an even column. -/
theorem wave_even (A r l : ℕ) (h : l % 2 = 0) :
    wave r l * wave A (l + 1) + wave r (l + 1) * wave A l = wave (A + r) l := by
  have h' : ¬ (l + 1) % 2 = 0 := by omega
  unfold wave
  rw [if_pos h, if_neg h', if_neg h', if_pos h, if_pos h, freq_succ l h, ← Real.sin_add]
  congr 1
  push_cast
  ring

/-- The cosine of a sum, at the odd column after the even one `l`. -/
theorem wave_odd (A r l : ℕ) (h : l % 2 = 0) :
    wave r (l + 1) * wave A (l + 1) + wave r l * (0 - wave A l) = wave (A + r) (l + 1) := by
  have h' : ¬ (l + 1) % 2 = 0 := by omega
  unfold wave
  rw [if_neg h', if_neg h', if_pos h, if_pos h, if_neg h', freq_succ l h, zero_sub, mul_neg, ← sub_eq_add_neg, ← Real.cos_add]
  congr 1
  push_cast
  ring

/-- The block a point computes is the table's rows of that block. -/
theorem blocks_apply (hT : ∀ s l, table m c (ix2 s l) = ((wave s.val l.val : ℝ) : EReal)) (u : Fin 16) (r : Fin 512) (l : Fin 1024)
    (s : Fin 8192) (hs : s.val = 512 * u.val + r.val) : blocks m c u (ix2 r l) = table m c (ix2 s l) := by
  have hu := u.isLt
  have hr := r.isLt
  have hl := l.isLt
  have hb : ∀ k : Fin 1024, baseAt m c u (ix2 r k) = ((wave r.val k.val : ℝ) : EReal) := fun k =>
    (base_apply m c u r k ⟨r.val, by omega⟩ rfl).trans (hT _ _)
  have hw : ∀ k : Fin 1024, rowAt m c u (ix3 (0 : Fin 1) (0 : Fin 1) k) = ((wave (512 * u.val) k.val : ℝ) : EReal) := fun k =>
    (start_apply m c u k ⟨512 * u.val, by omega⟩ rfl).trans (hT _ _)
  rw [hT, hs]
  show k0_pay8 (baseAt m c u) (rowAt m c u) (ix2 r l) + k0_pay9 (baseAt m c u) (rowAt m c u) (ix2 r l) = _
  by_cases h : l.val % 2 = 0
  · rw [cosines_even _ _ r l ⟨l.val + 1, by omega⟩ h rfl, sines_even _ _ r l ⟨l.val + 1, by omega⟩ h rfl, hb, hb, hw, hw, ← wave_even _ _ _ h]
    push_cast
    rfl
  · obtain ⟨k, hk⟩ : ∃ k, l.val = k + 1 := ⟨l.val - 1, by omega⟩
    rw [cosines_odd _ _ r l h, sines_odd _ _ r l ⟨k, by omega⟩ h hk.symm, hb, hb, hw, hw, hk, ← wave_odd _ _ _ (by omega)]
    rw [Ideal.ofBits_def, Ideal.ofBits_zero_f32]
    push_cast
    rfl

/-- The result is the table in every batch entry. -/
theorem outVal_eq (hT : ∀ s l, table m c (ix2 s l) = ((wave s.val l.val : ℝ) : EReal)) :
    outVal (blocks m c) = fun (j : S4x8192x1024.Idx) => table m c (ix2 (j 1) (j 2)) := by
  funext (j : S4x8192x1024.Idx)
  exact blocks_apply m c hT _ _ _ (j 1) (Nat.div_add_mod _ _).symm

end Cert.KernelIdeal.Hand
-- ==== Proof.Algebraic.lean ====
/-
  The algebraic claim: over the extended reals, from a table of sinusoids, the kernel and the reference leave one result, the
  table in every batch entry.
-/
module

public import proofs.«01_k».proof.Defs
public import proofs.«01_k».proof.Proof.Run
public import proofs.«01_k».proof.Proof.Value
public import proofs.«01_k».proof.Proof.Reference

@[expose] public section

noncomputable section

namespace Cert.Algebraic

open Idealize.ShloMosaic Idealize.SL.Sem
open Cert.KernelIdeal.Gen Cert.ReferenceIdeal.Gen Cert.Pre_is_sinusoid_table.Gen
open Cert.KernelIdeal.Hand (outVal outVal_eq blocks)
open Cert.ReferenceIdeal.Hand (taken)

/-- From one table of sinusoids both programs leave one result. -/
theorem kernelIdeal_referenceIdeal : Cert.algebraic_KernelIdeal_ReferenceIdeal_pre_is_sinusoid_table := fun m g m' g' hpre hargs =>
  ⟨fun c => outVal (blocks m c),
    (θ_run Cert.KernelIdeal.defs _ _).mono (fun r h => h.1) (Cert.KernelIdeal.Hand.run (F := Ideal) m g),
    (θ_run Cert.ReferenceIdeal.defs _ _).mono (fun r h c =>
        ⟨((h.1 c).1.trans (congrArg taken (hargs c).2)).trans (outVal_eq m c (Cert.Table.entry_eq _ _ (hpre c))).symm, (h.1 c).2⟩)
      (Cert.ReferenceIdeal.Hand.run (F := Ideal) m' g')⟩

end Cert.Algebraic

end
-- ==== Proof.lean ====
/-
  The certificate's claim: the frames (Proof/Frames.lean), `preserves`, which holds because the two programs are one text, and the
  algebraic equality with the reference (Proof/Algebraic.lean).
-/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_is_sinusoid_table.Gen.facts,
    Cert.Frames.kernel, Cert.Frames.kernelIdeal, Cert.Frames.kernelIdeal_pre, Cert.Frames.referenceIdeal, Cert.Frames.referenceIdeal_pre,
    trivial, Cert.Algebraic.kernelIdeal_referenceIdeal⟩

end Cert.Proof

end
